-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x11008 : Shape := ⟨3, ![2, 512, 11008]⟩
abbrev S2x512x4096 : Shape := ⟨3, ![2, 512, 4096]⟩
abbrev S2x512x128 : Shape := ⟨3, ![2, 512, 128]⟩
abbrev S2048x11008 : Shape := ⟨2, ![2048, 11008]⟩
abbrev S32x11008 : Shape := ⟨2, ![32, 11008]⟩
abbrev S4096x16 : Shape := ⟨2, ![4096, 16]⟩
abbrev S16x11008 : Shape := ⟨2, ![16, 11008]⟩
abbrev S11008 : Shape := ⟨1, ![11008]⟩
abbrev S1024x11008 : Shape := ⟨2, ![1024, 11008]⟩
abbrev S1024x4096 : Shape := ⟨2, ![1024, 4096]⟩
abbrev S1024x128 : Shape := ⟨2, ![1024, 128]⟩
abbrev S1x11008 : Shape := ⟨2, ![1, 11008]⟩
abbrev S1024x256 : Shape := ⟨2, ![1024, 256]⟩
abbrev S2048x256 : Shape := ⟨2, ![2048, 256]⟩
abbrev S32x256 : Shape := ⟨2, ![32, 256]⟩
abbrev S16x256 : Shape := ⟨2, ![16, 256]⟩
abbrev S1x256 : Shape := ⟨2, ![1, 256]⟩
abbrev S4096x256 : Shape := ⟨2, ![4096, 256]⟩
abbrev S1024x16 : Shape := ⟨2, ![1024, 16]⟩
abbrev S128x512 : Shape := ⟨2, ![128, 512]⟩
abbrev S1024x512 : Shape := ⟨2, ![1024, 512]⟩
abbrev S256x256 : Shape := ⟨2, ![256, 256]⟩
abbrev S256x1x256 : Shape := ⟨3, ![256, 1, 256]⟩
abbrev S256x2x256 : Shape := ⟨3, ![256, 2, 256]⟩
abbrev S512x256 : Shape := ⟨2, ![512, 256]⟩
abbrev S4x256 : Shape := ⟨2, ![4, 256]⟩
abbrev S4x128x256 : Shape := ⟨3, ![4, 128, 256]⟩
abbrev S4x1x256 : Shape := ⟨3, ![4, 1, 256]⟩
abbrev S512x16 : Shape := ⟨2, ![512, 16]⟩
abbrev S256 : Shape := ⟨1, ![256]⟩

abbrev nBuf : Space → Nat
  | .hbm => 18
  | .vmem => 26
  | .smem => 0
  | _ => 0

abbrev bufTy : (tb : Table) → Fin (tcTables nBuf tb) → BufTy
  | .hbm, ⟨0, _⟩ => ⟨S2x512x11008, .bf16⟩
  | .hbm, ⟨1, _⟩ => ⟨S2x512x4096, .fp8e4m3⟩
  | .hbm, ⟨2, _⟩ => ⟨S2x512x128, .f32⟩
  | .hbm, ⟨3, _⟩ => ⟨S2048x11008, .i8⟩
  | .hbm, ⟨4, _⟩ => ⟨S32x11008, .bf16⟩
  | .hbm, ⟨5, _⟩ => ⟨S4096x16, .bf16⟩
  | .hbm, ⟨6, _⟩ => ⟨S16x11008, .bf16⟩
  | .hbm, ⟨7, _⟩ => ⟨S11008, .f32⟩
  | .hbm, ⟨8, _⟩ => ⟨S11008, .f32⟩
  | .hbm, ⟨9, _⟩ => ⟨S1024x11008, .bf16⟩
  | .hbm, ⟨10, _⟩ => ⟨S1024x4096, .fp8e4m3⟩
  | .hbm, ⟨11, _⟩ => ⟨S1024x128, .f32⟩
  | .hbm, ⟨12, _⟩ => ⟨S1x11008, .f32⟩
  | .hbm, ⟨13, _⟩ => ⟨S1x11008, .f32⟩
  | .hbm, ⟨14, _⟩ => ⟨S1024x4096, .bf16⟩
  | .hbm, ⟨15, _⟩ => ⟨S4096x16, .bf16⟩
  | .hbm, ⟨16, _⟩ => ⟨S16x11008, .bf16⟩
  | .hbm, ⟨17, _⟩ => ⟨S1x11008, .f32⟩
  | .local _ .vmem, ⟨0, _⟩ => ⟨S1024x256, .bf16⟩
  | .local _ .vmem, ⟨1, _⟩ => ⟨S1024x256, .bf16⟩
  | .local _ .vmem, ⟨2, _⟩ => ⟨S1024x4096, .fp8e4m3⟩
  | .local _ .vmem, ⟨3, _⟩ => ⟨S1024x128, .f32⟩
  | .local _ .vmem, ⟨4, _⟩ => ⟨S2048x256, .i8⟩
  | .local _ .vmem, ⟨5, _⟩ => ⟨S2048x256, .i8⟩
  | .local _ .vmem, ⟨6, _⟩ => ⟨S32x256, .bf16⟩
  | .local _ .vmem, ⟨7, _⟩ => ⟨S32x256, .bf16⟩
  | .local _ .vmem, ⟨8, _⟩ => ⟨S4096x16, .bf16⟩
  | .local _ .vmem, ⟨9, _⟩ => ⟨S16x256, .bf16⟩
  | .local _ .vmem, ⟨10, _⟩ => ⟨S16x256, .bf16⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1024x4096, .bf16⟩
  | .local _ .vmem, ⟨16, _⟩ => ⟨S4096x16, .bf16⟩
  | .local _ .vmem, ⟨17, _⟩ => ⟨S16x256, .bf16⟩
  | .local _ .vmem, ⟨18, _⟩ => ⟨S16x256, .bf16⟩
  | .local _ .vmem, ⟨19, _⟩ => ⟨S1x256, .f32⟩
  | .local _ .vmem, ⟨20, _⟩ => ⟨S1x256, .f32⟩
  | .local _ .vmem, ⟨21, _⟩ => ⟨S1024x4096, .bf16⟩
  | .local _ .vmem, ⟨22, _⟩ => ⟨S4096x256, .bf16⟩
  | .local _ .vmem, ⟨23, _⟩ => ⟨S1024x4096, .f32⟩
  | .local _ .vmem, ⟨24, _⟩ => ⟨S1024x16, .f32⟩
  | .local _ .vmem, ⟨25, _⟩ => ⟨S1024x16, .bf16⟩
  | _, _ => ⟨S2x512x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![43], ![false]⟩

def k0_cond2 (i : grid0.Coords) : BitVec 1 :=
  let arg0 : BitVec 32 := BitVec.ofNat 32 (i 0).val
  let c42_i32 : BitVec 32 := 42#32
  let v315 : BitVec 1 := Scalar.cmpi .eq arg0 c42_i32
  let v316 : BitVec 32 := Scalar.extui v315
  let c0_i32_140 : BitVec 32 := 0#32
  let v317 : BitVec 1 := Scalar.cmpi .ne v316 c0_i32_140
  v317

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x16 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x512x11008 : Shape := ⟨3, ![2, 512, 11008]⟩
abbrev S2x512x4096 : Shape := ⟨3, ![2, 512, 4096]⟩
abbrev S2x512x128 : Shape := ⟨3, ![2, 512, 128]⟩
abbrev S2048x11008 : Shape := ⟨2, ![2048, 11008]⟩
abbrev S32x11008 : Shape := ⟨2, ![32, 11008]⟩
abbrev S4096x16 : Shape := ⟨2, ![4096, 16]⟩
abbrev S16x11008 : Shape := ⟨2, ![16, 11008]⟩
abbrev S11008 : Shape := ⟨1, ![11008]⟩
abbrev S_ : Shape := ⟨0, ![]⟩
abbrev S32x64x11008 : Shape := ⟨3, ![32, 64, 11008]⟩
abbrev S32x1x11008 : Shape := ⟨3, ![32, 1, 11008]⟩
abbrev S2048x2x16 : Shape := ⟨3, ![2048, 2, 16]⟩
abbrev S2048x1x16 : Shape := ⟨3, ![2048, 1, 16]⟩
abbrev S2048x16 : Shape := ⟨2, ![2048, 16]⟩
abbrev S1x1x11008 : Shape := ⟨3, ![1, 1, 11008]⟩
abbrev S2x512x2048 : Shape := ⟨3, ![2, 512, 2048]⟩
abbrev S2x512x2048x1 : Shape := ⟨4, ![2, 512, 2048, 1]⟩
abbrev S2x512x2048x2 : Shape := ⟨4, ![2, 512, 2048, 2]⟩
abbrev S2x512x128x16x2 : Shape := ⟨5, ![2, 512, 128, 16, 2]⟩
abbrev S2x512x128x1 : Shape := ⟨4, ![2, 512, 128, 1]⟩
abbrev S2x512x128x16x1 : Shape := ⟨5, ![2, 512, 128, 16, 1]⟩
abbrev S2x512x128x16 : Shape := ⟨4, ![2, 512, 128, 16]⟩
abbrev S2x512x16 : Shape := ⟨3, ![2, 512, 16]⟩
abbrev S1024x4096 : Shape := ⟨2, ![1024, 4096]⟩
abbrev S1x11008 : Shape := ⟨2, ![1, 11008]⟩

abbrev nBuf : Space → Nat
  | .hbm => 122
  | .vmem => 2
  | .smem => 0
  | _ => 0

abbrev bufTy : (tb : Table) → Fin (tcTables nBuf tb) → BufTy
  | .hbm, ⟨0, _⟩ => ⟨S2x512x11008, .bf16⟩
  | .hbm, ⟨1, _⟩ => ⟨S2x512x4096, .fp8e4m3⟩
  | .hbm, ⟨2, _⟩ => ⟨S2x512x128, .f32⟩
  | .hbm, ⟨3, _⟩ => ⟨S2048x11008, .i8⟩
  | .hbm, ⟨4, _⟩ => ⟨S32x11008, .bf16⟩
  | .hbm, ⟨5, _⟩ => ⟨S4096x16, .bf16⟩
  | .hbm, ⟨6, _⟩ => ⟨S16x11008, .bf16⟩
  | .hbm, ⟨7, _⟩ => ⟨S11008, .f32⟩
  | .hbm, ⟨8, _⟩ => ⟨S11008, .f32⟩
  | .hbm, ⟨9, _⟩ => ⟨S2x512x4096, .bf16⟩
  | .hbm, ⟨10, _⟩ => ⟨S2048x11008, .i32⟩
  | .hbm, ⟨11, _⟩ => ⟨S_, .i32⟩
  | .hbm, ⟨12, _⟩ => ⟨S2048x11008, .i32⟩
  | .hbm, ⟨13, _⟩ => ⟨S2048x11008, .i32⟩
  | .hbm, ⟨14, _⟩ => ⟨S_, .i32⟩
  | .hbm, ⟨15, _⟩ => ⟨S2048x11008, .i32⟩
  | .hbm, ⟨16, _⟩ => ⟨S2048x11008, .i32⟩
  | .hbm, ⟨17, _⟩ => ⟨S_, .i32⟩
  | .hbm, ⟨18, _⟩ => ⟨S2048x11008, .i32⟩
  | .hbm, ⟨19, _⟩ => ⟨S2048x11008, .i32⟩
  | .hbm, ⟨20, _⟩ => ⟨S2048x11008, .bf16⟩
  | .hbm, ⟨21, _⟩ => ⟨S32x64x11008, .bf16⟩
  | .hbm, ⟨22, _⟩ => ⟨S32x1x11008, .bf16⟩
  | .hbm, ⟨23, _⟩ => ⟨S32x64x11008, .bf16⟩
  | .hbm, ⟨24, _⟩ => ⟨S32x64x11008, .bf16⟩
  | .hbm, ⟨25, _⟩ => ⟨S2048x11008, .bf16⟩
  | .hbm, ⟨26, _⟩ => ⟨S_, .i32⟩
  | .hbm, ⟨27, _⟩ => ⟨S2048x11008, .i32⟩
  | .hbm, ⟨28, _⟩ => ⟨S2048x11008, .i32⟩
  | .hbm, ⟨29, _⟩ => ⟨S_, .i32⟩
  | .hbm, ⟨30, _⟩ => ⟨S2048x11008, .i32⟩
  | .hbm, ⟨31, _⟩ => ⟨S2048x11008, .i32⟩
  | .hbm, ⟨32, _⟩ => ⟨S_, .i32⟩
  | .hbm, ⟨33, _⟩ => ⟨S2048x11008, .i32⟩
  | .hbm, ⟨34, _⟩ => ⟨S2048x11008, .i32⟩
  | .hbm, ⟨35, _⟩ => ⟨S_, .i32⟩
  | .hbm, ⟨36, _⟩ => ⟨S2048x11008, .i32⟩
  | .hbm, ⟨37, _⟩ => ⟨S2048x11008, .i32⟩
  | .hbm, ⟨38, _⟩ => ⟨S2048x11008, .bf16⟩
  | .hbm, ⟨39, _⟩ => ⟨S32x64x11008, .bf16⟩
  | .hbm, ⟨40, _⟩ => ⟨S32x1x11008, .bf16⟩
  | .hbm, ⟨41, _⟩ => ⟨S32x64x11008, .bf16⟩
  | .hbm, ⟨42, _⟩ => ⟨S32x64x11008, .bf16⟩
  | .hbm, ⟨43, _⟩ => ⟨S2048x11008, .bf16⟩
  | .hbm, ⟨44, _⟩ => ⟨S2048x2x16, .bf16⟩
  | .hbm, ⟨45, _⟩ => ⟨S2048x1x16, .bf16⟩
  | .hbm, ⟨46, _⟩ => ⟨S2048x16, .bf16⟩
  | .hbm, ⟨47, _⟩ => ⟨S2048x1x16, .bf16⟩
  | .hbm, ⟨48, _⟩ => ⟨S2048x16, .bf16⟩
  | .hbm, ⟨49, _⟩ => ⟨S2048x11008, .f32⟩
  | .hbm, ⟨50, _⟩ => ⟨S2048x11008, .f32⟩
  | .hbm, ⟨51, _⟩ => ⟨S2048x11008, .f32⟩
  | .hbm, ⟨52, _⟩ => ⟨S_, .f32⟩
  | .hbm, ⟨53, _⟩ => ⟨S2048x11008, .f32⟩
  | .hbm, ⟨54, _⟩ => ⟨S2048x11008, .f32⟩
  | .hbm, ⟨55, _⟩ => ⟨S2048x11008, .f32⟩
  | .hbm, ⟨56, _⟩ => ⟨S2048x11008, .bf16⟩
  | .hbm, ⟨57, _⟩ => ⟨S2048x11008, .f32⟩
  | .hbm, ⟨58, _⟩ => ⟨S_, .f32⟩
  | .hbm, ⟨59, _⟩ => ⟨S2048x11008, .f32⟩
  | .hbm, ⟨60, _⟩ => ⟨S2048x11008, .f32⟩
  | .hbm, ⟨61, _⟩ => ⟨S2048x11008, .f32⟩
  | .hbm, ⟨62, _⟩ => ⟨S2048x11008, .bf16⟩
  | .hbm, ⟨63, _⟩ => ⟨S11008, .f32⟩
  | .hbm, ⟨64, _⟩ => ⟨S2x512x11008, .f32⟩
  | .hbm, ⟨65, _⟩ => ⟨S1x1x11008, .f32⟩
  | .hbm, ⟨66, _⟩ => ⟨S2x512x11008, .f32⟩
  | .hbm, ⟨67, _⟩ => ⟨S2x512x11008, .f32⟩
  | .hbm, ⟨68, _⟩ => ⟨S2x512x11008, .bf16⟩
  | .hbm, ⟨69, _⟩ => ⟨S2x512x2048, .f32⟩
  | .hbm, ⟨70, _⟩ => ⟨S2x512x2048, .bf16⟩
  | .hbm, ⟨71, _⟩ => ⟨S2x512x2048, .f32⟩
  | .hbm, ⟨72, _⟩ => ⟨S2x512x2048, .bf16⟩
  | .hbm, ⟨73, _⟩ => ⟨S2x512x2048x1, .bf16⟩
  | .hbm, ⟨74, _⟩ => ⟨S2x512x2048x1, .bf16⟩
  | .hbm, ⟨75, _⟩ => ⟨S2x512x2048x2, .bf16⟩
  | .hbm, ⟨76, _⟩ => ⟨S2x512x4096, .bf16⟩
  | .hbm, ⟨77, _⟩ => ⟨S2x512x128x16x2, .bf16⟩
  | .hbm, ⟨78, _⟩ => ⟨S2x512x128, .bf16⟩
  | .hbm, ⟨79, _⟩ => ⟨S2x512x128x1, .bf16⟩
  | .hbm, ⟨80, _⟩ => ⟨S2x512x128x16x1, .bf16⟩
  | .hbm, ⟨81, _⟩ => ⟨S2x512x128x16, .bf16⟩
  | .hbm, ⟨82, _⟩ => ⟨S2x512x128x16, .bf16⟩
  | .hbm, ⟨83, _⟩ => ⟨S2x512x128x16, .bf16⟩
  | .hbm, ⟨84, _⟩ => ⟨S2x512x2048, .bf16⟩
  | .hbm, ⟨85, _⟩ => ⟨S2x512x128x16x1, .bf16⟩
  | .hbm, ⟨86, _⟩ => ⟨S2x512x128x16, .bf16⟩
  | .hbm, ⟨87, _⟩ => ⟨S2x512x128x16, .bf16⟩
  | .hbm, ⟨88, _⟩ => ⟨S2x512x128x16, .bf16⟩
  | .hbm, ⟨89, _⟩ => ⟨S2x512x2048, .bf16⟩
  | .hbm, ⟨90, _⟩ => ⟨S2x512x11008, .f32⟩
  | .hbm, ⟨91, _⟩ => ⟨S2x512x11008, .f32⟩
  | .hbm, ⟨92, _⟩ => ⟨S2x512x11008, .f32⟩
  | .hbm, ⟨93, _⟩ => ⟨S2x512x11008, .f32⟩
  | .hbm, ⟨94, _⟩ => ⟨S1x1x11008, .f32⟩
  | .hbm, ⟨95, _⟩ => ⟨S2x512x11008, .f32⟩
  | .hbm, ⟨96, _⟩ => ⟨S2x512x11008, .f32⟩
  | .hbm, ⟨97, _⟩ => ⟨S_, .f32⟩
  | .hbm, ⟨98, _⟩ => ⟨S11008, .f32⟩
  | .hbm, ⟨99, _⟩ => ⟨S2x512x16, .f32⟩
  | .hbm, ⟨100, _⟩ => ⟨S2x512x16, .bf16⟩
  | .hbm, ⟨101, _⟩ => ⟨S2048x16, .f32⟩
  | .hbm, ⟨102, _⟩ => ⟨S2048x16, .f32⟩
  | .hbm, ⟨103, _⟩ => ⟨S2048x1x16, .f32⟩
  | .hbm, ⟨104, _⟩ => ⟨S2048x1x16, .f32⟩
  | .hbm, ⟨105, _⟩ => ⟨S2048x2x16, .f32⟩
  | .hbm, ⟨106, _⟩ => ⟨S4096x16, .f32⟩
  | .hbm, ⟨107, _⟩ => ⟨S_, .f32⟩
  | .hbm, ⟨108, _⟩ => ⟨S4096x16, .f32⟩
  | .hbm, ⟨109, _⟩ => ⟨S4096x16, .f32⟩
  | .hbm, ⟨110, _⟩ => ⟨S4096x16, .bf16⟩
  | .hbm, ⟨111, _⟩ => ⟨S2x512x16, .f32⟩
  | .hbm, ⟨112, _⟩ => ⟨S2x512x16, .f32⟩
  | .hbm, ⟨113, _⟩ => ⟨S2x512x16, .f32⟩
  | .hbm, ⟨114, _⟩ => ⟨S2x512x16, .bf16⟩
  | .hbm, ⟨115, _⟩ => ⟨S16x11008, .f32⟩
  | .hbm, ⟨116, _⟩ => ⟨S_, .f32⟩
  | .hbm, ⟨117, _⟩ => ⟨S16x11008, .f32⟩
  | .hbm, ⟨118, _⟩ => ⟨S16x11008, .f32⟩
  | .hbm, ⟨119, _⟩ => ⟨S16x11008, .bf16⟩
  | .hbm, ⟨120, _⟩ => ⟨S1024x4096, .bf16⟩
  | .hbm, ⟨121, _⟩ => ⟨S1x11008, .f32⟩
  | .local _ .vmem, ⟨0, _⟩ => ⟨S2x512x4096, .fp8e4m3⟩
  | .local _ .vmem, ⟨1, _⟩ => ⟨S2x512x4096, .bf16⟩
  | _, _ => ⟨S2x512x11008, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_7 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_8 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_9 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Model.lean ====
/- The mathematics of the DoRA linear backward, written as plain sums over the extended reals. The column index type `O` is
   left free: the same formulas serve one tile of 256 columns and the whole array of 11008. -/
module

public import Idealize.ShloMosaic.PureOps.Ideal.Laws

@[expose] public section

noncomputable section

namespace Cert.Dora

open Idealize.ShloMosaic
open scoped BigOperators

/-- One half, as the word of the programs' constant reads. -/
def half : EReal := Ideal.ofBits .f32 0x3F000000#32

/-- The word of the int4 code in nibble `p` (0 low, 1 high) of a byte: the field, sign-extended. -/
def nib (z : BitVec 8) (p : Nat) : BitVec 32 :=
  ((((z.setWidth 32) >>> (4 * p)) &&& 15#32) ^^^ 8#32) - 8#32

/-- The int4 code in nibble `p` of a byte, as a number. -/
def code (z : BitVec 8) (p : Nat) : EReal := FloatOps.sitofp (F := Ideal) .bf16 (nib z p)

variable {O : Type} [Fintype O]

/-- The adapted weight `v = dequant(w) + 1/2 · (A B)`: row `d`'s code is nibble `d % 2` of packed byte `d / 2`, its scale is
    that of group `d / 128`. -/
def vM (w : Fin 2048 → O → BitVec 8) (s : Fin 32 → O → EReal) (a : Fin 4096 → Fin 16 → EReal) (b : Fin 16 → O → EReal)
    (d : Fin 4096) (o : O) : EReal :=
  code (w ⟨d.val / 2, by omega⟩ o) (d.val % 2) * s ⟨d.val / 128, by omega⟩ o + half * ∑ r, a d r * b r o

/-- The dequantized activation: block `d / 32`'s scale times the code. -/
def xhM (x1 : Fin 1024 → Fin 4096 → EReal) (x2 : Fin 1024 → Fin 128 → EReal) (t : Fin 1024) (d : Fin 4096) : EReal :=
  x1 t d * x2 t ⟨d.val / 32, by omega⟩

/-- The gradient through the column rescale `mag / col_norm`. -/
def dypM (dy : Fin 1024 → O → EReal) (mag n : O → EReal) (t : Fin 1024) (o : O) : EReal :=
  dy t o * Ideal.div (mag o) (n o)

/-- `dx = dyp vᵀ`. -/
def dxM (dyp : Fin 1024 → O → EReal) (v : Fin 4096 → O → EReal) (t : Fin 1024) (d : Fin 4096) : EReal :=
  ∑ o, dyp t o * v d o

/-- `h = dyp Bᵀ`. -/
def hM (dyp : Fin 1024 → O → EReal) (b : Fin 16 → O → EReal) (t : Fin 1024) (r : Fin 16) : EReal :=
  ∑ o, dyp t o * b r o

/-- `dm = Σ_t dy · (xh v) / col_norm`. -/
def dmM (dy : Fin 1024 → O → EReal) (n : O → EReal) (xh : Fin 1024 → Fin 4096 → EReal) (v : Fin 4096 → O → EReal) (o : O) : EReal :=
  ∑ t, Ideal.div (dy t o * ∑ d, xh t d * v d o) (n o)

/-- `xa = xh A`. -/
def xaM (xh : Fin 1024 → Fin 4096 → EReal) (a : Fin 4096 → Fin 16 → EReal) (t : Fin 1024) (r : Fin 16) : EReal :=
  ∑ d, xh t d * a d r

/-- `dB = 1/2 · xaᵀ dyp`. -/
def dbM (xa : Fin 1024 → Fin 16 → EReal) (dyp : Fin 1024 → O → EReal) (r : Fin 16) (o : O) : EReal :=
  half * ∑ t, xa t r * dyp t o

/-- `dA = 1/2 · xhᵀ h`. -/
def daM (xh : Fin 1024 → Fin 4096 → EReal) (h : Fin 1024 → Fin 16 → EReal) (d : Fin 4096) (r : Fin 16) : EReal :=
  half * ∑ t, xh t d * h t r

/-- A sum over 4096 rows is the sum over the even rows plus the sum over the odd rows. -/
theorem sum_even_odd (f : Fin 4096 → EReal) :
    ∑ d, f d = (∑ j : Fin 2048, f ⟨2 * j.val, by omega⟩) + ∑ j : Fin 2048, f ⟨2 * j.val + 1, by omega⟩ := by
  rw [← (finProdFinEquiv (m := 2048) (n := 2)).sum_comp, Fintype.sum_prod_type, ← Finset.sum_add_distrib]
  refine Finset.sum_congr rfl fun j _ => ?_
  rw [Fin.sum_univ_two]
  congr 1 <;> congr 1 <;> apply Fin.ext <;> simp [finProdFinEquiv]; omega

/-- A sum over 1024 tokens is the sum over 2 batches of 512 positions. -/
theorem sum_tokens (f : Fin 1024 → EReal) :
    ∑ t, f t = ∑ i : Fin 2, ∑ j : Fin 512, f ⟨512 * i.val + j.val, by omega⟩ := by
  rw [← (finProdFinEquiv (m := 2) (n := 512)).sum_comp, Fintype.sum_prod_type]
  refine Finset.sum_congr rfl fun i _ => Finset.sum_congr rfl fun j _ => ?_
  congr 1; apply Fin.ext; simp [finProdFinEquiv]; omega

/-- Column `c` of tile `j` in the whole array. -/
def col (j : Fin 43) (c : Fin 256) : Fin 11008 := ⟨256 * j.val + c.val, by omega⟩

/-- A sum over 11008 columns is the sum over 43 tiles of 256 columns. -/
theorem sum_tiles (f : Fin 11008 → EReal) : ∑ o, f o = ∑ j : Fin 43, ∑ c : Fin 256, f (col j c) := by
  rw [← (finProdFinEquiv (m := 43) (n := 256)).sum_comp, Fintype.sum_prod_type]
  refine Finset.sum_congr rfl fun i _ => Finset.sum_congr rfl fun j _ => ?_
  congr 1; apply Fin.ext; simp [finProdFinEquiv, col]; omega

end Cert.Dora

end
-- ==== Proof.Words.lean ====
/- The integer words the kernel and the reference compute from: int4 codes and block numbers. -/
module

public import proofs.«01_k».proof.Proof.Model
public import Idealize.ShloMosaic.Lib.KernelVsHost

@[expose] public section

noncomputable section

namespace Cert.Dora

open Idealize.ShloMosaic
open scoped BigOperators

/-- The kernel's decode: shift the wanted nibble to the top, shift it back with its sign. For the low nibble (`p = 0`) by 28,
    for the high one (`p = 1`) by 24. -/
theorem kernel_nib (z : BitVec 8) (p : Fin 2) :
    IntOp.shrsi .vector (IntOp.shli .vector (BitVec.setWidth 32 z) (IntOp.subi 28#32 (IntOp.muli 4#32 (BitVec.ofNat 32 p.val)))) 28#32
      = nib z p.val := by
  revert z p
  decide +kernel

/-- The parity of a row number, as the kernel's `iota & 1` computes it. -/
theorem kernel_parity (r : Fin 512) : IntOp.andi (BitVec.ofNat 32 r.val) 1#32 = BitVec.ofNat 32 (r.val % 2) := by
  revert r
  decide +kernel

/-- The floor division by 32 that the printed kernel spells with a signed quotient, a remainder and a correction. -/
def floorWord (k : BitVec 32) : BitVec 32 :=
  Scalar.select
    (IntOp.andi
      (IntOp.cmpi CmpIPredicate.ne
        (IntOp.subi
          (BitVec.setWidth 32 (IntOp.cmpi CmpIPredicate.sgt k 0#32))
          (BitVec.setWidth 32 (IntOp.cmpi CmpIPredicate.slt k 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector k 32#32) 0#32))
    (IntOp.subi (IntOp.divsi ArithUnit.vector k 32#32) 1#32)
    (IntOp.divsi ArithUnit.vector k 32#32)

/-- On a column number it is the quotient. -/
theorem floorWord_ofNat (k : Fin 4096) : floorWord (BitVec.ofNat 32 k.val) = BitVec.ofNat 32 (k.val / 32) := by
  revert k
  decide +kernel

/-- The one-hot entry: 1 where the row number is the column's block number, 0 elsewhere. -/
theorem onehot (x : Fin 128) (q : Nat) (hq : q < 128) :
    FloatOps.sitofp (F := Ideal) .f32 (BitVec.setWidth 32 (IntOp.cmpi CmpIPredicate.eq (BitVec.ofNat 32 x.val) (BitVec.ofNat 32 q)))
      = if x.val = q then (1 : EReal) else 0 := by
  have hx : (BitVec.ofNat 32 x.val == BitVec.ofNat 32 q) = decide (x.val = q) := by
    rw [Bool.eq_iff_iff, beq_iff_eq, decide_eq_true_iff, ← BitVec.toNat_inj, BitVec.toNat_ofNat, BitVec.toNat_ofNat]
    omega
  show ((((BitVec.ofBool (BitVec.ofNat 32 x.val == BitVec.ofNat 32 q)).setWidth 32).toInt : ℝ) : EReal) = _
  rw [hx, toInt_setWidth_bit]
  by_cases h : x.val = q <;> simp [h]

/-- A sum against the one-hot column picks one term. -/
theorem sum_onehot (f : Fin 128 → EReal) (q : Fin 128) :
    ∑ x : Fin 128, f x * (if x.val = q.val then (1 : EReal) else 0) = f q := by
  rw [Finset.sum_eq_single q]
  · simp
  · intro b _ hb
    rw [if_neg (fun h => hb (Fin.ext h)), mul_zero]
  · simp

end Cert.Dora

end
-- ==== Proof.Block.lean ====
/- What one grid step of the kernel computes, block by block, read at an index over the extended reals. -/
module

public import proofs.«01_k».proof.Proof.Gen.KernelIdeal.Skeleton
public import proofs.«01_k».proof.Proof.Words
public import Idealize.ShloMosaic.Lib.Pointwise

@[expose] public section

noncomputable section

namespace Cert.Dora

open Idealize.ShloMosaic Idealize.SL.Sem
open Cert.KernelIdeal Cert.KernelIdeal.Gen

section Chunk
variable {F : FTy → Type} [FloatOps F]

/-- The dequantized activation's chunk of 512 columns that begins at column `off`, as the kernel computes it: the codes times
    the scales spread over the columns by a one-hot product. The kernel's eight chunks are this one at eight offsets. -/
def spread (off : BitVec 32) (x2 : Vec F S1024x128 .f32) (x1 : Vec F S1024x512 .fp8e4m3) : FVec F S1024x512 .bf16 :=
  have v318 : IVec S128x512 32 := iota .tc S128x512 32 [0] iota_S128x512_d0_w32
  have v319 : IVec S128x512 32 := iota .tc S128x512 32 [1] iota_S128x512_d1_w32
  have v362 : IVec S128x512 32 := broadcast S128x512 off
  have v363 : IVec S128x512 32 := addi v319 v362
  have v364 : IVec S128x512 32 := broadcast S128x512 32#32
  have v365 : IVec S128x512 32 := divsi v363 v364
  have v366 : IVec S128x512 32 := broadcast S128x512 0#32
  have v367 : IVec S128x512 1 := cmpi .sgt v363 v366
  have v368 : IVec S128x512 32 := extui 32 v367 natLt_1_32
  have v369 : IVec S128x512 32 := broadcast S128x512 0#32
  have v370 : IVec S128x512 1 := cmpi .slt v363 v369
  have v371 : IVec S128x512 32 := extui 32 v370 natLt_1_32
  have v372 : IVec S128x512 32 := subi v368 v371
  let v373 : BitVec 1 := Scalar.cmpi .sgt 32#32 0#32
  let v374 : BitVec 32 := Scalar.extui v373
  let v375 : BitVec 1 := Scalar.cmpi .slt 32#32 0#32
  let v376 : BitVec 32 := Scalar.extui v375
  let v377 : BitVec 32 := Scalar.subi v374 v376
  have v378 : IVec S128x512 32 := broadcast S128x512 v377
  have v379 : IVec S128x512 1 := cmpi .ne v372 v378
  have v380 : IVec S128x512 32 := broadcast S128x512 32#32
  have v381 : IVec S128x512 32 := remsi v363 v380
  have v382 : IVec S128x512 32 := broadcast S128x512 0#32
  have v383 : IVec S128x512 1 := cmpi .ne v381 v382
  have v384 : IVec S128x512 1 := andi v379 v383
  have v385 : IVec S128x512 32 := broadcast S128x512 1#32
  have v386 : IVec S128x512 32 := subi v365 v385
  have v387 : IVec S128x512 32 := select v384 v386 v365
  have v388 : IVec S128x512 1 := cmpi .eq v318 v387
  have v389 : IVec S128x512 32 := extui 32 v388 natLt_1_32
  have v390 : FVec F S128x512 .f32 := sitofp .f32 v389
  have v391 : FVec F S128x512 .bf16 := truncf .bf16 v390 bitsLt_bf16_f32
  have cst_162 : FVec F S1024x512 .f32 := constant S1024x512 .f32 0x00000000#32
  have v392 : FVec F S1024x512 .f32 := matmul dot_S1024x128_S128x512_S1024x512_1_0_0_1_n_n none (k0_pay4 x2) v391 cst_162
  have v393 : FVec F S1024x512 .bf16 := truncf .bf16 v392 bitsLt_bf16_f32
  have v395 : FVec F S1024x512 .fp8e4m3 := shapeCast S1024x512 x1 shapeCasts_S1024x512_S1024x512
  have v396 : FVec F S1024x512 .bf16 := extf .bf16 v395 bitsLt_fp8e4m3_bf16
  have v397 : FVec F S1024x512 .bf16 := mulf v396 v393
  have v400 : FVec F S1024x512 .bf16 := shapeCast S1024x512 v397 shapeCasts_S1024x512_S1024x512
  v400

end Chunk

/-- A chunk of the dequantized activation at an index: the code times its block's scale. -/
theorem spread_apply (off : Nat) (hoff : off + 512 ≤ 4096) (x2 : Vec Ideal S1024x128 .f32) (x1 : Vec Ideal S1024x512 .fp8e4m3)
    (t : Fin 1024) (c : Fin 512) :
    spread (F := Ideal) (BitVec.ofNat 32 off) x2 x1 (ix2 t c)
      = x1 (ix2 t c) * x2 (ix2 t (⟨(off + c.val) / 32, by omega⟩ : Fin 128)) := by
  unfold spread k0_pay4
  pointwise
  have hadd : IntOp.addi (BitVec.ofNat 32 c.val) (BitVec.ofNat 32 off) = BitVec.ofNat 32 (off + c.val) := by
    show BitVec.ofNat 32 c.val + BitVec.ofNat 32 off = _
    rw [← BitVec.ofNat_add, Nat.add_comm]
  rw [hadd]
  have hw := floorWord_ofNat (⟨off + c.val, by omega⟩ : Fin 4096)
  unfold floorWord at hw
  dsimp only at hw
  rw [hw]
  congr 1
  rw [← sum_onehot (fun x => x2 (ix2 t x)) ⟨(off + c.val) / 32, by omega⟩]
  exact Finset.sum_congr rfl fun x _ => congrArg (x2 (ix2 t x) * ·) (onehot x _ (by omega))

/-- A tile's chunk of 512 weight rows at an index: the code times its group's scale, plus half the adapter product. -/
theorem pay32_apply (w : Vec Ideal S256x256 .i8) (s : Vec Ideal S4x256 .bf16) (a : Vec Ideal S512x16 .bf16) (b : Vec Ideal S16x256 .bf16)
    (r : Fin 512) (c : Fin 256) :
    k0_pay32 (F := Ideal) w s a b (ix2 r c)
      = code (w (ix2 (⟨r.val / 2, by omega⟩ : Fin 256) c)) (r.val % 2) * s (ix2 (⟨r.val / 128, by omega⟩ : Fin 4) c)
        + half * ∑ x : Fin 16, a (ix2 r x) * b (ix2 x c) := by
  unfold k0_pay32
  pointwise
  rw [kernel_parity r]
  have hk := kernel_nib (w (ix2 (⟨r.val / 2, by omega⟩ : Fin 256) c)) ⟨r.val % 2, by omega⟩
  dsimp only at hk
  rw [hk]
  rfl

/-- The rescaled gradient of a tile. -/
theorem pay49_apply (n : Vec Ideal S1x256 .f32) (dy : Vec Ideal S1024x256 .bf16) (mag : Vec Ideal S1x256 .f32) (t : Fin 1024) (c : Fin 256) :
    k0_pay49 (F := Ideal) n dy mag (ix2 t c)
      = dypM (fun t c => dy (ix2 t c)) (fun c => mag (ix2 0 c)) (fun c => n (ix2 0 c)) t c := by
  unfold k0_pay49 k0_pay48
  pointwise
  rfl

/-- One step of the `dx` accumulator. -/
theorem pay50_apply (n : Vec Ideal S1x256 .f32) (dy : Vec Ideal S1024x256 .bf16) (mag : Vec Ideal S1x256 .f32) (acc : Vec Ideal S1024x4096 .f32)
    (v : Vec Ideal S4096x256 .bf16) (t : Fin 1024) (d : Fin 4096) :
    k0_pay50 (F := Ideal) n dy mag acc v (ix2 t d)
      = acc (ix2 t d) + dxM (dypM (fun t c => dy (ix2 t c)) (fun c => mag (ix2 0 c)) (fun c => n (ix2 0 c))) (fun d c => v (ix2 d c)) t d := by
  unfold k0_pay50 k0_pay49 k0_pay48
  pointwise
  rfl

/-- A tile of `dm`. -/
theorem pay51_apply (n : Vec Ideal S1x256 .f32) (dy : Vec Ideal S1024x256 .bf16) (xh : Vec Ideal S1024x4096 .bf16) (v : Vec Ideal S4096x256 .bf16)
    (r : Fin 1) (c : Fin 256) :
    k0_pay51 (F := Ideal) n dy xh v (ix2 r c)
      = dmM (fun t c => dy (ix2 t c)) (fun c => n (ix2 0 c)) (fun t d => xh (ix2 t d)) (fun d c => v (ix2 d c)) c := by
  unfold k0_pay51 k0_pay48
  pointwise
  rfl

/-- One step of the `h` accumulator. -/
theorem pay52_apply (n : Vec Ideal S1x256 .f32) (dy : Vec Ideal S1024x256 .bf16) (mag : Vec Ideal S1x256 .f32) (h : Vec Ideal S1024x16 .f32)
    (b : Vec Ideal S16x256 .bf16) (t : Fin 1024) (r : Fin 16) :
    k0_pay52 (F := Ideal) n dy mag h b (ix2 t r)
      = h (ix2 t r) + hM (dypM (fun t c => dy (ix2 t c)) (fun c => mag (ix2 0 c)) (fun c => n (ix2 0 c))) (fun r c => b (ix2 r c)) t r := by
  unfold k0_pay52 k0_pay49 k0_pay48
  pointwise
  rfl

/-- A tile of `dB`. -/
theorem pay1_apply (dyp : FVec Ideal S1024x256 .bf16) (xa : Vec Ideal S1024x16 .bf16) (r : Fin 16) (c : Fin 256) :
    k0_pay1 (F := Ideal) dyp xa (ix2 r c) = dbM (fun t r => xa (ix2 t r)) (fun t c => dyp (ix2 t c)) r c := by
  unfold k0_pay1
  pointwise
  rfl

/-- The result `dA` from the activation and the finished `h`. -/
theorem pay3_apply (xh : Vec Ideal S1024x4096 .bf16) (h : Vec Ideal S1024x16 .f32) (d : Fin 4096) (r : Fin 16) :
    k0_pay3 (F := Ideal) xh h (ix2 d r) = daM (fun t d => xh (ix2 t d)) (fun t r => h (ix2 t r)) d r := by
  unfold k0_pay3
  pointwise
  rfl

/-- `xa = xh A`. -/
theorem pay29_apply (xh : Vec Ideal S1024x4096 .bf16) (a : Vec Ideal S4096x16 .bf16) (t : Fin 1024) (r : Fin 16) :
    k0_pay29 (F := Ideal) xh a (ix2 t r) = xaM (fun t d => xh (ix2 t d)) (fun d r => a (ix2 d r)) t r := by
  unfold k0_pay29
  pointwise
  rfl

/-- The result `dx` is the finished accumulator. -/
theorem pay2_eq (acc : Vec Ideal S1024x4096 .f32) : k0_pay2 (F := Ideal) acc = acc := rfl

/-- The `h` accumulator starts at zero. -/
theorem pay30_apply (i : S1024x16.Idx) : k0_pay30 (F := Ideal) i = 0 := by
  unfold k0_pay30
  pointwise

/-- The `dx` accumulator starts at zero. -/
theorem pay31_apply (i : S1024x4096.Idx) : k0_pay31 (F := Ideal) i = 0 := by
  unfold k0_pay31
  pointwise

end Cert.Dora

end
-- ==== Proof.Pieces.lean ====
/- What the kernel's two tiled scratch buffers hold: the dequantized activation (eight chunks of 512 columns) and the tile of
   adapted weights (eight chunks of 512 rows), each as one block. -/
module

public import proofs.«01_k».proof.Proof.Block
public import Idealize.ShloMosaic.Lib.Pipeline.Value
public import Idealize.ShloMosaic.Lib.Pipeline.FrameBody
public import Idealize.ShloMosaic.Lib.Pipeline.ValueKit.Geometry

@[expose] public section

noncomputable section

namespace Cert.Dora

open Idealize.ShloMosaic Idealize.SL.Sem
open Cert.KernelIdeal Cert.KernelIdeal.Gen

/-- A matrix block as a function of row and column. -/
abbrev m2 {a b : ℕ} {α : Type} (x : (⟨2, ![a, b]⟩ : Shape).Idx → α) (r : Fin a) (c : Fin b) : α := x (ix2 r c)

/-- A one-row block as a function of the column. -/
abbrev row {b : ℕ} {α : Type} (x : (⟨2, ![1, b]⟩ : Shape).Idx → α) (c : Fin b) : α := x (ix2 (0 : Fin 1) c)

/-- A function of row and column as a matrix block. -/
def un {a b : ℕ} {α : Type} (f : Fin a → Fin b → α) : (⟨2, ![a, b]⟩ : Shape).Idx → α := fun i => f (i 0) (i 1)

theorem m2_un {a b : ℕ} {α : Type} (f : Fin a → Fin b → α) : m2 (un f) = f := rfl

/-- Two blocks that agree at every row and column are equal. -/
theorem ext2 {a b : ℕ} {α : Type} {x y : (⟨2, ![a, b]⟩ : Shape).Idx → α} (h : ∀ r c, x (ix2 r c) = y (ix2 r c)) : x = y := by
  funext i
  rw [show i = ix2 (i 0) (i 1) from by funext k; fin_cases k <;> rfl]
  exact h _ _

/-- A block equals the one made of `f` when it reads `f` at every row and column. -/
theorem eq_un {a b : ℕ} {α : Type} {x : (⟨2, ![a, b]⟩ : Shape).Idx → α} {f : Fin a → Fin b → α} (h : ∀ r c, x (ix2 r c) = f r c) : x = un f :=
  ext2 h

theorem hz : (![0, 0] : Fin 2 → Nat) = fun _ => 0 := funext fun a => by fin_cases a <;> rfl

/-- Reading back a whole buffer that covering stores filled, each with its part of one block `G`, gives `G`. -/
theorem readCov_of_pieces {sig : RefSig} {κ : Kind} {sp : Space} {S : Shape} {e : EltTy} (v : View sig κ sp S e) {off : Fin S.rank → Nat}
    (h0 : off = fun _ => 0) (inb : ∀ a, off a + S.size a ≤ S.size a) (L : List (View.Piece (Elt Ideal) S e)) (G : S.Idx → Elt Ideal e)
    (hL : ∀ p ∈ L, ∀ x : p.1.shape.Idx, p.2 x = G (p.1.emb x)) (hc : ∀ y, ∃ p ∈ L, y ∈ p.1.set) :
    v.readCov L (Rect.unit off S.size inb).toLoadRect = G := by
  rw [View.readCov_eq_canon_ld v L _ hc, View.ld_unit_zero h0]
  funext y
  exact View.canon_apply_of_pieces G L hL y (hc y)

/-! ## The eight chunks of the activation are one chunk at eight offsets -/

section
variable {F : FTy → Type} [FloatOps F] (x2 : Vec F S1024x128 .f32) (x1 : Vec F S1024x512 .fp8e4m3)
theorem spread_0 : k0_pay5 x2 x1 = spread (BitVec.ofNat 32 0) x2 x1 := rfl
theorem spread_1 : k0_pay6 (iota .tc S128x512 32 [0] iota_S128x512_d0_w32) (iota .tc S128x512 32 [1] iota_S128x512_d1_w32) (k0_pay4 x2) x1 = spread (BitVec.ofNat 32 512) x2 x1 := rfl
theorem spread_2 : k0_pay9 (iota .tc S128x512 32 [0] iota_S128x512_d0_w32) (k0_pay4 x2) (k0_pay7 (iota .tc S128x512 32 [1] iota_S128x512_d1_w32)) (32#32) (k0_pay8 (iota .tc S128x512 32 [1] iota_S128x512_d1_w32)) (0#32) x1 = spread (BitVec.ofNat 32 1024) x2 x1 := rfl
theorem spread_3 : k0_pay14 (iota .tc S128x512 32 [0] iota_S128x512_d0_w32) (k0_pay4 x2) (k0_pay10 (iota .tc S128x512 32 [1] iota_S128x512_d1_w32)) (32#32) (k0_pay11 (iota .tc S128x512 32 [1] iota_S128x512_d1_w32)) (k0_pay12 (iota .tc S128x512 32 [1] iota_S128x512_d1_w32)) (k0_pay13 (iota .tc S128x512 32 [1] iota_S128x512_d1_w32)) x1
    = spread (BitVec.ofNat 32 1536) x2 x1 := rfl
theorem spread_4 : k0_pay18 (iota .tc S128x512 32 [0] iota_S128x512_d0_w32) (k0_pay4 x2) (k0_pay15 (iota .tc S128x512 32 [1] iota_S128x512_d1_w32)) (32#32) (k0_pay16 (iota .tc S128x512 32 [1] iota_S128x512_d1_w32)) (k0_pay17 (iota .tc S128x512 32 [1] iota_S128x512_d1_w32)) (1#32) (0#32) x1
    = spread (BitVec.ofNat 32 2048) x2 x1 := rfl
theorem spread_5 : k0_pay24 (iota .tc S128x512 32 [0] iota_S128x512_d0_w32) (k0_pay4 x2) (k0_pay20 (iota .tc S128x512 32 [1] iota_S128x512_d1_w32)) (k0_pay21 (iota .tc S128x512 32 [1] iota_S128x512_d1_w32)) (k0_pay22 (iota .tc S128x512 32 [1] iota_S128x512_d1_w32)) k0_pay23 x1
    = spread (BitVec.ofNat 32 2560) x2 x1 := rfl
theorem spread_6 : k0_pay26 (k0_pay4 x2) (k0_pay25 (iota .tc S128x512 32 [0] iota_S128x512_d0_w32) (iota .tc S128x512 32 [1] iota_S128x512_d1_w32)) x1 = spread (BitVec.ofNat 32 3072) x2 x1 := rfl
theorem spread_7 : k0_pay28 (k0_pay27 (iota .tc S128x512 32 [0] iota_S128x512_d0_w32) (iota .tc S128x512 32 [1] iota_S128x512_d1_w32) (k0_pay4 x2)) x1 = spread (BitVec.ofNat 32 3584) x2 x1 := rfl
end

/-! ## The eight chunks of the weight tile are one chunk -/

section
variable {F : FTy → Type} [FloatOps F] (w : Vec F S256x256 .i8) (s : Vec F S4x256 .bf16) (a : Vec F S512x16 .bf16) (b : Vec F S16x256 .bf16)
theorem tile_1 : k0_pay33 w s a b = k0_pay32 w s a b := rfl
theorem tile_2 : k0_pay36 (k0_pay34 w) k0_pay35 s a b = k0_pay32 w s a b := rfl
theorem tile_3 : k0_pay38 (k0_pay37 w) (28#32) s a b = k0_pay32 w s a b := rfl
theorem tile_4 : k0_pay41 (k0_pay39 w) (k0_pay40 s) a b = k0_pay32 w s a b := rfl
theorem tile_5 : k0_pay43 (k0_pay42 w s) a b (constant S512x256 FTy.f32 0#32) = k0_pay32 w s a b := rfl
theorem tile_6 : k0_pay45 (k0_pay44 w s a b) = k0_pay32 w s a b := rfl
theorem tile_7 : k0_pay46 w s a b = k0_pay32 w s a b := rfl
end

/-! ## The two blocks -/

/-- The dequantized activation as a block. -/
def xhB (x1 : Vec Ideal S1024x4096 .fp8e4m3) (x2 : Vec Ideal S1024x128 .f32) : Vec Ideal S1024x4096 .bf16 := un (xhM (m2 x1) (m2 x2))

/-- The tile of adapted weights as a block. -/
def vB (w : Vec Ideal S2048x256 .i8) (s : Vec Ideal S32x256 .bf16) (a : Vec Ideal S4096x16 .bf16) (b : Vec Ideal S16x256 .bf16) :
    Vec Ideal S4096x256 .bf16 := un (vM (m2 w) (m2 s) (m2 a) (m2 b))

/-- A load of a rectangle at row offset `o` and column offset `o'` reads the block there. -/
theorem ld_apply {A B a b : ℕ} {e : EltTy} (x : (⟨2, ![A, B]⟩ : Shape).Idx → Elt Ideal e) (o o' : ℕ)
    (inb : ∀ k, (![o, o'] : Fin 2 → ℕ) k + (![a, b] : Fin 2 → ℕ) k ≤ (![A, B] : Fin 2 → ℕ) k) (r : Fin a) (c : Fin b)
    (h : o + r.val < A) (h' : o' + c.val < B) :
    View.ld (Val := Elt Ideal) (S := ⟨2, ![A, B]⟩) x (Rect.unit (s := ⟨2, ![A, B]⟩) ![o, o'] ![a, b] inb) (ix2 r c) = x (ix2 (⟨o + r.val, h⟩ : Fin A) (⟨o' + c.val, h'⟩ : Fin B)) := by
  refine congrArg x (funext fun k => Fin.ext ?_)
  fin_cases k
  · show o + 1 * r.val = o + r.val
    omega
  · show o' + 1 * c.val = o' + c.val
    omega

/-- Chunk at column offset `off` of the activation block. -/
theorem spread_piece (off : ℕ) (hoff : off + 512 ≤ 4096) (x1 : Vec Ideal S1024x4096 .fp8e4m3) (x2 : Vec Ideal S1024x128 .f32)
    (inb : ∀ k, (![0, off] : Fin 2 → ℕ) k + (![1024, 512] : Fin 2 → ℕ) k ≤ (![1024, 4096] : Fin 2 → ℕ) k) (inb' : ∀ k, (![0, 0] : Fin 2 → ℕ) k + (![1024, 128] : Fin 2 → ℕ) k ≤ (![1024, 128] : Fin 2 → ℕ) k)
    (y : (Rect.unit (s := S1024x4096) ![0, off] ![1024, 512] inb).shape.Idx) :
    spread (BitVec.ofNat 32 off) (View.ld (Val := Elt Ideal) (S := S1024x128) (e' := .f32) x2 (Rect.unit (s := S1024x128) ![0, 0] ![1024, 128] inb'))
        (View.ld (Val := Elt Ideal) (S := S1024x4096) (e' := .fp8e4m3) x1 (Rect.unit (s := S1024x4096) ![0, off] ![1024, 512] inb)) y
      = xhB x1 x2 ((Rect.unit (s := S1024x4096) ![0, off] ![1024, 512] inb).emb y) := by
  obtain ⟨t, c, rfl⟩ : ∃ (t : Fin 1024) (c : Fin 512), y = ix2 t c := ⟨y 0, y 1, by funext k; fin_cases k <;> rfl⟩
  rw [spread_apply off hoff, View.ld_unit_zero (S := S1024x128) hz, ld_apply x1 0 off inb t c (by omega) (by omega)]
  have e : (Rect.unit (s := S1024x4096) ![0, off] ![1024, 512] inb).emb (ix2 t c)
      = ix2 (⟨0 + t.val, by omega⟩ : Fin 1024) (⟨off + c.val, by omega⟩ : Fin 4096) := by
    refine funext fun k => Fin.ext ?_
    fin_cases k
    · show 0 + 1 * t.val = 0 + t.val
      omega
    · show off + 1 * c.val = off + c.val
      omega
  rw [e]
  show _ = x1 (ix2 _ _) * x2 (ix2 _ _)
  congr 3
  exact Fin.ext (Nat.zero_add _).symm

/-- Chunk at row offset `512 k` of the weight tile. -/
theorem tile_piece (k : ℕ) (hk : k < 8) (w : Vec Ideal S2048x256 .i8) (s : Vec Ideal S32x256 .bf16) (a : Vec Ideal S4096x16 .bf16) (b : Vec Ideal S16x256 .bf16)
    (o₁ o₂ o₃ : ℕ) (h₁ : o₁ = 256 * k) (h₂ : o₂ = 4 * k) (h₃ : o₃ = 512 * k)
    (inb₁ : ∀ k, (![o₁, 0] : Fin 2 → ℕ) k + (![256, 256] : Fin 2 → ℕ) k ≤ (![2048, 256] : Fin 2 → ℕ) k)
    (inb₂ : ∀ k, (![o₂, 0] : Fin 2 → ℕ) k + (![4, 256] : Fin 2 → ℕ) k ≤ (![32, 256] : Fin 2 → ℕ) k)
    (inb₃ : ∀ k, (![o₃, 0] : Fin 2 → ℕ) k + (![512, 16] : Fin 2 → ℕ) k ≤ (![4096, 16] : Fin 2 → ℕ) k)
    (inb₄ : ∀ k, (![0, 0] : Fin 2 → ℕ) k + (![16, 256] : Fin 2 → ℕ) k ≤ (![16, 256] : Fin 2 → ℕ) k)
    (inb₅ : ∀ k, (![o₃, 0] : Fin 2 → ℕ) k + (![512, 256] : Fin 2 → ℕ) k ≤ (![4096, 256] : Fin 2 → ℕ) k)
    (y : (Rect.unit (s := S4096x256) ![o₃, 0] ![512, 256] inb₅).shape.Idx) :
    k0_pay32 (F := Ideal) (View.ld (Val := Elt Ideal) (S := S2048x256) (e' := .i8) w (Rect.unit (s := S2048x256) ![o₁, 0] ![256, 256] inb₁))
        (View.ld (Val := Elt Ideal) (S := S32x256) (e' := .bf16) s (Rect.unit (s := S32x256) ![o₂, 0] ![4, 256] inb₂))
        (View.ld (Val := Elt Ideal) (S := S4096x16) (e' := .bf16) a (Rect.unit (s := S4096x16) ![o₃, 0] ![512, 16] inb₃))
        (View.ld (Val := Elt Ideal) (S := S16x256) (e' := .bf16) b (Rect.unit (s := S16x256) ![0, 0] ![16, 256] inb₄)) y
      = vB w s a b ((Rect.unit (s := S4096x256) ![o₃, 0] ![512, 256] inb₅).emb y) := by
  obtain ⟨r, c, rfl⟩ : ∃ (r : Fin 512) (c : Fin 256), y = ix2 r c := ⟨y 0, y 1, by funext k; fin_cases k <;> rfl⟩
  rw [pay32_apply, View.ld_unit_zero (S := S16x256) hz, ld_apply w o₁ 0 inb₁ _ c (by dsimp only; omega) (by omega),
    ld_apply s o₂ 0 inb₂ _ c (by dsimp only; omega) (by omega)]
  have e : (Rect.unit (s := S4096x256) ![o₃, 0] ![512, 256] inb₅).emb (ix2 r c)
      = ix2 (⟨o₃ + r.val, by omega⟩ : Fin 4096) c := by
    refine funext fun k => Fin.ext ?_
    fin_cases k
    · show o₃ + 1 * r.val = o₃ + r.val
      omega
    · show 0 + 1 * c.val = c.val
      omega
  rw [e]
  show _ = vM (m2 w) (m2 s) (m2 a) (m2 b) (⟨o₃ + r.val, by omega⟩ : Fin 4096) c
  have hc : (⟨0 + c.val, by omega⟩ : Fin 256) = c := Fin.ext (Nat.zero_add _)
  unfold vM m2
  simp only [hc]
  have e1 : (⟨o₁ + r.val / 2, by omega⟩ : Fin 2048) = ⟨(o₃ + r.val) / 2, by omega⟩ := Fin.ext (by dsimp only; omega)
  have e2 : (⟨o₂ + r.val / 128, by omega⟩ : Fin 32) = ⟨(o₃ + r.val) / 128, by omega⟩ := Fin.ext (by dsimp only; omega)
  have e3 : (o₃ + r.val) % 2 = r.val % 2 := by omega
  rw [e1, e2, e3]
  congr 2
  refine Finset.sum_congr rfl fun x _ => ?_
  rw [ld_apply a o₃ 0 inb₃ r x (by omega) (by omega)]
  congr 3
  exact Fin.ext (Nat.zero_add _)

end Cert.Dora

end
-- ==== Proof.Blocks.lean ====
/- What the grid's blocks read of the whole arrays: tile `t` of a tiled operand is its columns `256 t + c`, an untiled operand
   is whole at every point; and what the host's reshapes before the call leave in the operands. -/
module

public import proofs.«01_k».proof.Proof.Gen.KernelIdeal.Frame
public import proofs.«01_k».proof.Proof.Pieces
public import Idealize.ShloMosaic.Lib.Pipeline.Value
public import Idealize.ShloMosaic.Lib.StableHlo.Run
public import Idealize.ShloMosaic.Lib.Pointwise
public import Idealize.ShloMosaic.Lib.Tactic

@[expose] public section

noncomputable section

namespace Cert.Dora

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- The tile a grid point works on. -/
def tile (t : Fin cfg0.N) : Fin 43 := ⟨t.val, lt_of_lt_of_eq t.isLt N_0⟩

/-- Window 0's block number at a point. -/
theorem index_0 : ∀ t : Fin cfg0.N, win0_0.index t (0 : Fin 2) = 0 ∧ win0_0.index t (1 : Fin 2) = t.val := by decide +kernel

/-- Window 0's block at a point: columns `256 t + c` of its array. -/
theorem iblk_0 : (iblk m c 0 t : Vec Ideal S1024x256 .bf16) = un fun r k => m2 (V m c main_v0 : Vec Ideal S1024x11008 .bf16) r (col (tile t) k) := by
  have hi := index_0 t
  funext j
  unfold iblk
  rw [View.read_apply]
  show V m c main_v0 _ = V m c main_v0 _
  unfold V
  congr 1
  funext a
  apply Fin.ext
  match a with
  | ⟨0, _⟩ => show win0_0.index t 0 * 1024 + 1 * (j 0).val = (j 0).val; rw [hi.1]; omega
  | ⟨1, _⟩ => show win0_0.index t 1 * 256 + 1 * (j 1).val = 256 * t.val + (j 1).val; rw [hi.2]; omega

/-- Window 1's block number at a point. -/
theorem index_1 : ∀ t : Fin cfg0.N, win0_1.index t (0 : Fin 2) = 0 ∧ win0_1.index t (1 : Fin 2) = 0 := by decide +kernel

/-- Window 1's block at a point: its whole array. -/
theorem iblk_1 : (iblk m c 1 t : Vec Ideal S1024x4096 .fp8e4m3) = (V m c main_v1 : Vec Ideal S1024x4096 .fp8e4m3) := by
  have hi := index_1 t
  funext j
  unfold iblk
  rw [View.read_apply]
  show V m c main_v1 _ = V m c main_v1 _
  unfold V
  congr 1
  funext a
  apply Fin.ext
  match a with
  | ⟨0, _⟩ => show win0_1.index t 0 * 1024 + 1 * (j 0).val = (j 0).val; rw [hi.1]; omega
  | ⟨1, _⟩ => show win0_1.index t 1 * 4096 + 1 * (j 1).val = (j 1).val; rw [hi.2]; omega

/-- Window 2's block number at a point. -/
theorem index_2 : ∀ t : Fin cfg0.N, win0_2.index t (0 : Fin 2) = 0 ∧ win0_2.index t (1 : Fin 2) = 0 := by decide +kernel

/-- Window 2's block at a point: its whole array. -/
theorem iblk_2 : (iblk m c 2 t : Vec Ideal S1024x128 .f32) = (V m c main_v2 : Vec Ideal S1024x128 .f32) := by
  have hi := index_2 t
  funext j
  unfold iblk
  rw [View.read_apply]
  show V m c main_v2 _ = V m c main_v2 _
  unfold V
  congr 1
  funext a
  apply Fin.ext
  match a with
  | ⟨0, _⟩ => show win0_2.index t 0 * 1024 + 1 * (j 0).val = (j 0).val; rw [hi.1]; omega
  | ⟨1, _⟩ => show win0_2.index t 1 * 128 + 1 * (j 1).val = (j 1).val; rw [hi.2]; omega

/-- Window 3's block number at a point. -/
theorem index_3 : ∀ t : Fin cfg0.N, win0_3.index t (0 : Fin 2) = 0 ∧ win0_3.index t (1 : Fin 2) = t.val := by decide +kernel

/-- Window 3's block at a point: columns `256 t + c` of its array. -/
theorem iblk_3 : (iblk m c 3 t : Vec Ideal S2048x256 .i8) = un fun r k => m2 (V m c main_arg3 : Vec Ideal S2048x11008 .i8) r (col (tile t) k) := by
  have hi := index_3 t
  funext j
  unfold iblk
  rw [View.read_apply]
  show V m c main_arg3 _ = V m c main_arg3 _
  unfold V
  congr 1
  funext a
  apply Fin.ext
  match a with
  | ⟨0, _⟩ => show win0_3.index t 0 * 2048 + 1 * (j 0).val = (j 0).val; rw [hi.1]; omega
  | ⟨1, _⟩ => show win0_3.index t 1 * 256 + 1 * (j 1).val = 256 * t.val + (j 1).val; rw [hi.2]; omega

/-- Window 4's block number at a point. -/
theorem index_4 : ∀ t : Fin cfg0.N, win0_4.index t (0 : Fin 2) = 0 ∧ win0_4.index t (1 : Fin 2) = t.val := by decide +kernel

/-- Window 4's block at a point: columns `256 t + c` of its array. -/
theorem iblk_4 : (iblk m c 4 t : Vec Ideal S32x256 .bf16) = un fun r k => m2 (V m c main_arg4 : Vec Ideal S32x11008 .bf16) r (col (tile t) k) := by
  have hi := index_4 t
  funext j
  unfold iblk
  rw [View.read_apply]
  show V m c main_arg4 _ = V m c main_arg4 _
  unfold V
  congr 1
  funext a
  apply Fin.ext
  match a with
  | ⟨0, _⟩ => show win0_4.index t 0 * 32 + 1 * (j 0).val = (j 0).val; rw [hi.1]; omega
  | ⟨1, _⟩ => show win0_4.index t 1 * 256 + 1 * (j 1).val = 256 * t.val + (j 1).val; rw [hi.2]; omega

/-- Window 5's block number at a point. -/
theorem index_5 : ∀ t : Fin cfg0.N, win0_5.index t (0 : Fin 2) = 0 ∧ win0_5.index t (1 : Fin 2) = 0 := by decide +kernel

/-- Window 5's block at a point: its whole array. -/
theorem iblk_5 : (iblk m c 5 t : Vec Ideal S4096x16 .bf16) = (V m c main_arg5 : Vec Ideal S4096x16 .bf16) := by
  have hi := index_5 t
  funext j
  unfold iblk
  rw [View.read_apply]
  show V m c main_arg5 _ = V m c main_arg5 _
  unfold V
  congr 1
  funext a
  apply Fin.ext
  match a with
  | ⟨0, _⟩ => show win0_5.index t 0 * 4096 + 1 * (j 0).val = (j 0).val; rw [hi.1]; omega
  | ⟨1, _⟩ => show win0_5.index t 1 * 16 + 1 * (j 1).val = (j 1).val; rw [hi.2]; omega

/-- Window 6's block number at a point. -/
theorem index_6 : ∀ t : Fin cfg0.N, win0_6.index t (0 : Fin 2) = 0 ∧ win0_6.index t (1 : Fin 2) = t.val := by decide +kernel

/-- Window 6's block at a point: columns `256 t + c` of its array. -/
theorem iblk_6 : (iblk m c 6 t : Vec Ideal S16x256 .bf16) = un fun r k => m2 (V m c main_arg6 : Vec Ideal S16x11008 .bf16) r (col (tile t) k) := by
  have hi := index_6 t
  funext j
  unfold iblk
  rw [View.read_apply]
  show V m c main_arg6 _ = V m c main_arg6 _
  unfold V
  congr 1
  funext a
  apply Fin.ext
  match a with
  | ⟨0, _⟩ => show win0_6.index t 0 * 16 + 1 * (j 0).val = (j 0).val; rw [hi.1]; omega
  | ⟨1, _⟩ => show win0_6.index t 1 * 256 + 1 * (j 1).val = 256 * t.val + (j 1).val; rw [hi.2]; omega

/-- Window 7's block number at a point. -/
theorem index_7 : ∀ t : Fin cfg0.N, win0_7.index t (0 : Fin 2) = 0 ∧ win0_7.index t (1 : Fin 2) = t.val := by decide +kernel

/-- Window 7's block at a point: columns `256 t + c` of its array. -/
theorem iblk_7 : (iblk m c 7 t : Vec Ideal S1x256 .f32) = un fun r k => m2 (V m c main_v3 : Vec Ideal S1x11008 .f32) r (col (tile t) k) := by
  have hi := index_7 t
  funext j
  unfold iblk
  rw [View.read_apply]
  show V m c main_v3 _ = V m c main_v3 _
  unfold V
  congr 1
  funext a
  apply Fin.ext
  match a with
  | ⟨0, _⟩ => show win0_7.index t 0 * 1 + 1 * (j 0).val = (j 0).val; rw [hi.1]; omega
  | ⟨1, _⟩ => show win0_7.index t 1 * 256 + 1 * (j 1).val = 256 * t.val + (j 1).val; rw [hi.2]; omega

/-- Window 8's block number at a point. -/
theorem index_8 : ∀ t : Fin cfg0.N, win0_8.index t (0 : Fin 2) = 0 ∧ win0_8.index t (1 : Fin 2) = t.val := by decide +kernel

/-- Window 8's block at a point: columns `256 t + c` of its array. -/
theorem iblk_8 : (iblk m c 8 t : Vec Ideal S1x256 .f32) = un fun r k => m2 (V m c main_v4 : Vec Ideal S1x11008 .f32) r (col (tile t) k) := by
  have hi := index_8 t
  funext j
  unfold iblk
  rw [View.read_apply]
  show V m c main_v4 _ = V m c main_v4 _
  unfold V
  congr 1
  funext a
  apply Fin.ext
  match a with
  | ⟨0, _⟩ => show win0_8.index t 0 * 1 + 1 * (j 0).val = (j 0).val; rw [hi.1]; omega
  | ⟨1, _⟩ => show win0_8.index t 1 * 256 + 1 * (j 1).val = 256 * t.val + (j 1).val; rw [hi.2]; omega

/-- The region finds a reshape of the argument in this operand. -/
theorem V_main_v0 : (V m c main_v0 : Vec Ideal S1024x11008 .bf16) = shapeCast S1024x11008 (m ((c : Thread nD τ).loc main_arg0) : Vec Ideal S2x512x11008 .bf16) shapeCasts_S2x512x11008_S1024x11008 := by
  show StableHlo.after hostOps0 _ (Proc.devRef .tc main_v0) = _
  after_results
  rfl

/-- The region finds a reshape of the argument in this operand. -/
theorem V_main_v1 : (V m c main_v1 : Vec Ideal S1024x4096 .fp8e4m3) = shapeCast S1024x4096 (m ((c : Thread nD τ).loc main_arg1) : Vec Ideal S2x512x4096 .fp8e4m3) shapeCasts_S2x512x4096_S1024x4096 := by
  show StableHlo.after hostOps0 _ (Proc.devRef .tc main_v1) = _
  after_results
  rfl

/-- The region finds a reshape of the argument in this operand. -/
theorem V_main_v2 : (V m c main_v2 : Vec Ideal S1024x128 .f32) = shapeCast S1024x128 (m ((c : Thread nD τ).loc main_arg2) : Vec Ideal S2x512x128 .f32) shapeCasts_S2x512x128_S1024x128 := by
  show StableHlo.after hostOps0 _ (Proc.devRef .tc main_v2) = _
  after_results
  rfl

/-- The region finds a reshape of the argument in this operand. -/
theorem V_main_v3 : (V m c main_v3 : Vec Ideal S1x11008 .f32) = shapeCast S1x11008 (m ((c : Thread nD τ).loc main_arg7) : Vec Ideal S11008 .f32) shapeCasts_S11008_S1x11008 := by
  show StableHlo.after hostOps0 _ (Proc.devRef .tc main_v3) = _
  after_results
  rfl

/-- The region finds a reshape of the argument in this operand. -/
theorem V_main_v4 : (V m c main_v4 : Vec Ideal S1x11008 .f32) = shapeCast S1x11008 (m ((c : Thread nD τ).loc main_arg8) : Vec Ideal S11008 .f32) shapeCasts_S11008_S1x11008 := by
  show StableHlo.after hostOps0 _ (Proc.devRef .tc main_v4) = _
  after_results
  rfl

end Cert.Dora

end
-- ==== Proof.Cases.lean ====
/- What the kernel's body leaves in each buffer at a grid point, in each of its three cases: the first point (A), the points
   between (B) and the last point (C). -/
module

public import proofs.«01_k».proof.Proof.Gen.KernelIdeal.Frame
public import proofs.«01_k».proof.Proof.Pieces
public import Idealize.ShloMosaic.Lib.Tactic

@[expose] public section

noncomputable section

namespace Cert.Dora

open Idealize.ShloMosaic Idealize.ShloMosaic.TcCoe Idealize.SL.Sem
open Cert.KernelIdeal Cert.KernelIdeal.Gen

/-- The stores that fill the activation scratch, last first. -/
abbrev xhL (x1 : Vec Ideal S1024x4096 .fp8e4m3) (x2 : Vec Ideal S1024x128 .f32) : List (View.Piece (Elt Ideal) S1024x4096 .bf16) :=
  [⟨Rect.unit (s := S1024x4096) ![0, 3584] ![1024, 512] inb_S1024x4096_S1024x512_0_3584,
      spread (BitVec.ofNat 32 3584) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 3584] ![1024, 512] inb_S1024x4096_S1024x512_0_3584))⟩,
    ⟨Rect.unit (s := S1024x4096) ![0, 3072] ![1024, 512] inb_S1024x4096_S1024x512_0_3072,
      spread (BitVec.ofNat 32 3072) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 3072] ![1024, 512] inb_S1024x4096_S1024x512_0_3072))⟩,
    ⟨Rect.unit (s := S1024x4096) ![0, 2560] ![1024, 512] inb_S1024x4096_S1024x512_0_2560,
      spread (BitVec.ofNat 32 2560) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 2560] ![1024, 512] inb_S1024x4096_S1024x512_0_2560))⟩,
    ⟨Rect.unit (s := S1024x4096) ![0, 2048] ![1024, 512] inb_S1024x4096_S1024x512_0_2048,
      spread (BitVec.ofNat 32 2048) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 2048] ![1024, 512] inb_S1024x4096_S1024x512_0_2048))⟩,
    ⟨Rect.unit (s := S1024x4096) ![0, 1536] ![1024, 512] inb_S1024x4096_S1024x512_0_1536,
      spread (BitVec.ofNat 32 1536) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 1536] ![1024, 512] inb_S1024x4096_S1024x512_0_1536))⟩,
    ⟨Rect.unit (s := S1024x4096) ![0, 1024] ![1024, 512] inb_S1024x4096_S1024x512_0_1024,
      spread (BitVec.ofNat 32 1024) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 1024] ![1024, 512] inb_S1024x4096_S1024x512_0_1024))⟩,
    ⟨Rect.unit (s := S1024x4096) ![0, 512] ![1024, 512] inb_S1024x4096_S1024x512_0_512,
      spread (BitVec.ofNat 32 512) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 512] ![1024, 512] inb_S1024x4096_S1024x512_0_512))⟩,
    ⟨Rect.unit (s := S1024x4096) ![0, 0] ![1024, 512] inb_S1024x4096_S1024x512_0_0,
      spread (BitVec.ofNat 32 0) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 0] ![1024, 512] inb_S1024x4096_S1024x512_0_0))⟩]

/-- The stores that fill the weight scratch, last first. -/
abbrev vL (x3 : Vec Ideal S2048x256 .i8) (x4 : Vec Ideal S32x256 .bf16) (x5 : Vec Ideal S4096x16 .bf16) (x6 : Vec Ideal S16x256 .bf16) :
    List (View.Piece (Elt Ideal) S4096x256 .bf16) :=
  [⟨Rect.unit (s := S4096x256) ![3584, 0] ![512, 256] inb_S4096x256_S512x256_3584_0,
      k0_pay32 (View.ld (Val := Elt Ideal) (S := S2048x256) (e' := .i8) x3 (Rect.unit (s := S2048x256) ![1792, 0] ![256, 256] inb_S2048x256_S256x256_1792_0))
        (View.ld (Val := Elt Ideal) (S := S32x256) (e' := .bf16) x4 (Rect.unit (s := S32x256) ![28, 0] ![4, 256] inb_S32x256_S4x256_28_0))
        (View.ld (Val := Elt Ideal) (S := S4096x16) (e' := .bf16) x5 (Rect.unit (s := S4096x16) ![3584, 0] ![512, 16] inb_S4096x16_S512x16_3584_0))
        (View.ld (Val := Elt Ideal) (S := S16x256) (e' := .bf16) x6 (Rect.unit (s := S16x256) ![0, 0] ![16, 256] inb_S16x256_S16x256_0_0))⟩,
    ⟨Rect.unit (s := S4096x256) ![3072, 0] ![512, 256] inb_S4096x256_S512x256_3072_0,
      k0_pay32 (View.ld (Val := Elt Ideal) (S := S2048x256) (e' := .i8) x3 (Rect.unit (s := S2048x256) ![1536, 0] ![256, 256] inb_S2048x256_S256x256_1536_0))
        (View.ld (Val := Elt Ideal) (S := S32x256) (e' := .bf16) x4 (Rect.unit (s := S32x256) ![24, 0] ![4, 256] inb_S32x256_S4x256_24_0))
        (View.ld (Val := Elt Ideal) (S := S4096x16) (e' := .bf16) x5 (Rect.unit (s := S4096x16) ![3072, 0] ![512, 16] inb_S4096x16_S512x16_3072_0))
        (View.ld (Val := Elt Ideal) (S := S16x256) (e' := .bf16) x6 (Rect.unit (s := S16x256) ![0, 0] ![16, 256] inb_S16x256_S16x256_0_0))⟩,
    ⟨Rect.unit (s := S4096x256) ![2560, 0] ![512, 256] inb_S4096x256_S512x256_2560_0,
      k0_pay32 (View.ld (Val := Elt Ideal) (S := S2048x256) (e' := .i8) x3 (Rect.unit (s := S2048x256) ![1280, 0] ![256, 256] inb_S2048x256_S256x256_1280_0))
        (View.ld (Val := Elt Ideal) (S := S32x256) (e' := .bf16) x4 (Rect.unit (s := S32x256) ![20, 0] ![4, 256] inb_S32x256_S4x256_20_0))
        (View.ld (Val := Elt Ideal) (S := S4096x16) (e' := .bf16) x5 (Rect.unit (s := S4096x16) ![2560, 0] ![512, 16] inb_S4096x16_S512x16_2560_0))
        (View.ld (Val := Elt Ideal) (S := S16x256) (e' := .bf16) x6 (Rect.unit (s := S16x256) ![0, 0] ![16, 256] inb_S16x256_S16x256_0_0))⟩,
    ⟨Rect.unit (s := S4096x256) ![2048, 0] ![512, 256] inb_S4096x256_S512x256_2048_0,
      k0_pay32 (View.ld (Val := Elt Ideal) (S := S2048x256) (e' := .i8) x3 (Rect.unit (s := S2048x256) ![1024, 0] ![256, 256] inb_S2048x256_S256x256_1024_0))
        (View.ld (Val := Elt Ideal) (S := S32x256) (e' := .bf16) x4 (Rect.unit (s := S32x256) ![16, 0] ![4, 256] inb_S32x256_S4x256_16_0))
        (View.ld (Val := Elt Ideal) (S := S4096x16) (e' := .bf16) x5 (Rect.unit (s := S4096x16) ![2048, 0] ![512, 16] inb_S4096x16_S512x16_2048_0))
        (View.ld (Val := Elt Ideal) (S := S16x256) (e' := .bf16) x6 (Rect.unit (s := S16x256) ![0, 0] ![16, 256] inb_S16x256_S16x256_0_0))⟩,
    ⟨Rect.unit (s := S4096x256) ![1536, 0] ![512, 256] inb_S4096x256_S512x256_1536_0,
      k0_pay32 (View.ld (Val := Elt Ideal) (S := S2048x256) (e' := .i8) x3 (Rect.unit (s := S2048x256) ![768, 0] ![256, 256] inb_S2048x256_S256x256_768_0))
        (View.ld (Val := Elt Ideal) (S := S32x256) (e' := .bf16) x4 (Rect.unit (s := S32x256) ![12, 0] ![4, 256] inb_S32x256_S4x256_12_0))
        (View.ld (Val := Elt Ideal) (S := S4096x16) (e' := .bf16) x5 (Rect.unit (s := S4096x16) ![1536, 0] ![512, 16] inb_S4096x16_S512x16_1536_0))
        (View.ld (Val := Elt Ideal) (S := S16x256) (e' := .bf16) x6 (Rect.unit (s := S16x256) ![0, 0] ![16, 256] inb_S16x256_S16x256_0_0))⟩,
    ⟨Rect.unit (s := S4096x256) ![1024, 0] ![512, 256] inb_S4096x256_S512x256_1024_0,
      k0_pay32 (View.ld (Val := Elt Ideal) (S := S2048x256) (e' := .i8) x3 (Rect.unit (s := S2048x256) ![512, 0] ![256, 256] inb_S2048x256_S256x256_512_0))
        (View.ld (Val := Elt Ideal) (S := S32x256) (e' := .bf16) x4 (Rect.unit (s := S32x256) ![8, 0] ![4, 256] inb_S32x256_S4x256_8_0))
        (View.ld (Val := Elt Ideal) (S := S4096x16) (e' := .bf16) x5 (Rect.unit (s := S4096x16) ![1024, 0] ![512, 16] inb_S4096x16_S512x16_1024_0))
        (View.ld (Val := Elt Ideal) (S := S16x256) (e' := .bf16) x6 (Rect.unit (s := S16x256) ![0, 0] ![16, 256] inb_S16x256_S16x256_0_0))⟩,
    ⟨Rect.unit (s := S4096x256) ![512, 0] ![512, 256] inb_S4096x256_S512x256_512_0,
      k0_pay32 (View.ld (Val := Elt Ideal) (S := S2048x256) (e' := .i8) x3 (Rect.unit (s := S2048x256) ![256, 0] ![256, 256] inb_S2048x256_S256x256_256_0))
        (View.ld (Val := Elt Ideal) (S := S32x256) (e' := .bf16) x4 (Rect.unit (s := S32x256) ![4, 0] ![4, 256] inb_S32x256_S4x256_4_0))
        (View.ld (Val := Elt Ideal) (S := S4096x16) (e' := .bf16) x5 (Rect.unit (s := S4096x16) ![512, 0] ![512, 16] inb_S4096x16_S512x16_512_0))
        (View.ld (Val := Elt Ideal) (S := S16x256) (e' := .bf16) x6 (Rect.unit (s := S16x256) ![0, 0] ![16, 256] inb_S16x256_S16x256_0_0))⟩,
    ⟨Rect.unit (s := S4096x256) ![0, 0] ![512, 256] inb_S4096x256_S512x256_0_0,
      k0_pay32 (View.ld (Val := Elt Ideal) (S := S2048x256) (e' := .i8) x3 (Rect.unit (s := S2048x256) ![0, 0] ![256, 256] inb_S2048x256_S256x256_0_0))
        (View.ld (Val := Elt Ideal) (S := S32x256) (e' := .bf16) x4 (Rect.unit (s := S32x256) ![0, 0] ![4, 256] inb_S32x256_S4x256_0_0))
        (View.ld (Val := Elt Ideal) (S := S4096x16) (e' := .bf16) x5 (Rect.unit (s := S4096x16) ![0, 0] ![512, 16] inb_S4096x16_S512x16_0_0))
        (View.ld (Val := Elt Ideal) (S := S16x256) (e' := .bf16) x6 (Rect.unit (s := S16x256) ![0, 0] ![16, 256] inb_S16x256_S16x256_0_0))⟩]

/-- They tile it. -/
theorem xhL_cover (x1 : Vec Ideal S1024x4096 .fp8e4m3) (x2 : Vec Ideal S1024x128 .f32) : ∀ y, ∃ p ∈ xhL x1 x2, y ∈ p.1.set :=
  View.cover_of_tiledL (xhL x1 x2) S1024x512.size (by sl_kernel_rfl)

theorem vL_cover (x3 : Vec Ideal S2048x256 .i8) (x4 : Vec Ideal S32x256 .bf16) (x5 : Vec Ideal S4096x16 .bf16) (x6 : Vec Ideal S16x256 .bf16) :
    ∀ y, ∃ p ∈ vL x3 x4 x5 x6, y ∈ p.1.set :=
  View.cover_of_tiledL (vL x3 x4 x5 x6) S512x256.size (by sl_kernel_rfl)

/-- Each store of the activation scratch writes its chunk of the one block. -/
theorem xhL_pieces (x1 : Vec Ideal S1024x4096 .fp8e4m3) (x2 : Vec Ideal S1024x128 .f32) :
    ∀ p ∈ xhL x1 x2, ∀ y : p.1.shape.Idx, p.2 y = xhB x1 x2 (p.1.emb y) := by
  unfold xhL
  simp only [List.forall_mem_cons, List.not_mem_nil, false_imp_iff, implies_true, and_true]
  exact ⟨spread_piece 3584 (by omega) x1 x2 _ _, spread_piece 3072 (by omega) x1 x2 _ _, spread_piece 2560 (by omega) x1 x2 _ _, spread_piece 2048 (by omega) x1 x2 _ _, spread_piece 1536 (by omega) x1 x2 _ _, spread_piece 1024 (by omega) x1 x2 _ _, spread_piece 512 (by omega) x1 x2 _ _, spread_piece 0 (by omega) x1 x2 _ _⟩

/-- Each store of the weight scratch writes its chunk of the one block. -/
theorem vL_pieces (x3 : Vec Ideal S2048x256 .i8) (x4 : Vec Ideal S32x256 .bf16) (x5 : Vec Ideal S4096x16 .bf16) (x6 : Vec Ideal S16x256 .bf16) :
    ∀ p ∈ vL x3 x4 x5 x6, ∀ y : p.1.shape.Idx, p.2 y = vB x3 x4 x5 x6 (p.1.emb y) := by
  unfold vL
  simp only [List.forall_mem_cons, List.not_mem_nil, false_imp_iff, implies_true, and_true]
  exact ⟨tile_piece 7 (by omega) x3 x4 x5 x6 _ _ _ rfl rfl rfl _ _ _ _ _,
    tile_piece 6 (by omega) x3 x4 x5 x6 _ _ _ rfl rfl rfl _ _ _ _ _,
    tile_piece 5 (by omega) x3 x4 x5 x6 _ _ _ rfl rfl rfl _ _ _ _ _,
    tile_piece 4 (by omega) x3 x4 x5 x6 _ _ _ rfl rfl rfl _ _ _ _ _,
    tile_piece 3 (by omega) x3 x4 x5 x6 _ _ _ rfl rfl rfl _ _ _ _ _,
    tile_piece 2 (by omega) x3 x4 x5 x6 _ _ _ rfl rfl rfl _ _ _ _ _,
    tile_piece 1 (by omega) x3 x4 x5 x6 _ _ _ rfl rfl rfl _ _ _ _ _,
    tile_piece 0 (by omega) x3 x4 x5 x6 _ _ _ rfl rfl rfl _ _ _ _ _⟩

/-- Reading the activation scratch back gives the activation block. -/
theorem readCov_xh (v : View sig .tc .vmem S1024x4096 .bf16) (x1 : Vec Ideal S1024x4096 .fp8e4m3) (x2 : Vec Ideal S1024x128 .f32) :
    v.readCov [⟨Rect.unit (s := S1024x4096) ![0, 3584] ![1024, 512] inb_S1024x4096_S1024x512_0_3584,
      spread (BitVec.ofNat 32 3584) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 3584] ![1024, 512] inb_S1024x4096_S1024x512_0_3584))⟩,
    ⟨Rect.unit (s := S1024x4096) ![0, 3072] ![1024, 512] inb_S1024x4096_S1024x512_0_3072,
      spread (BitVec.ofNat 32 3072) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 3072] ![1024, 512] inb_S1024x4096_S1024x512_0_3072))⟩,
    ⟨Rect.unit (s := S1024x4096) ![0, 2560] ![1024, 512] inb_S1024x4096_S1024x512_0_2560,
      spread (BitVec.ofNat 32 2560) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 2560] ![1024, 512] inb_S1024x4096_S1024x512_0_2560))⟩,
    ⟨Rect.unit (s := S1024x4096) ![0, 2048] ![1024, 512] inb_S1024x4096_S1024x512_0_2048,
      spread (BitVec.ofNat 32 2048) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 2048] ![1024, 512] inb_S1024x4096_S1024x512_0_2048))⟩,
    ⟨Rect.unit (s := S1024x4096) ![0, 1536] ![1024, 512] inb_S1024x4096_S1024x512_0_1536,
      spread (BitVec.ofNat 32 1536) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 1536] ![1024, 512] inb_S1024x4096_S1024x512_0_1536))⟩,
    ⟨Rect.unit (s := S1024x4096) ![0, 1024] ![1024, 512] inb_S1024x4096_S1024x512_0_1024,
      spread (BitVec.ofNat 32 1024) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 1024] ![1024, 512] inb_S1024x4096_S1024x512_0_1024))⟩,
    ⟨Rect.unit (s := S1024x4096) ![0, 512] ![1024, 512] inb_S1024x4096_S1024x512_0_512,
      spread (BitVec.ofNat 32 512) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 512] ![1024, 512] inb_S1024x4096_S1024x512_0_512))⟩,
    ⟨Rect.unit (s := S1024x4096) ![0, 0] ![1024, 512] inb_S1024x4096_S1024x512_0_0,
      spread (BitVec.ofNat 32 0) (View.ld (Val := Elt Ideal) (S := S1024x128) (e' := .f32) x2 (Rect.unit (s := S1024x128) ![0, 0] ![1024, 128] inb_S1024x128_S1024x128_0_0)) (View.ld (Val := Elt Ideal) (S := S1024x4096) (e' := .fp8e4m3) x1 (Rect.unit (s := S1024x4096) ![0, 0] ![1024, 512] inb_S1024x4096_S1024x512_0_0))⟩] (Rect.unit (s := S1024x4096) ![0, 0] ![1024, 4096] inb_S1024x4096_S1024x4096_0_0).toLoadRect = xhB x1 x2 :=
  readCov_of_pieces v hz _ (xhL x1 x2) (xhB x1 x2) (xhL_pieces x1 x2) (xhL_cover x1 x2)

/-- Reading the weight scratch back gives the weight block. -/
theorem readCov_v (v : View sig .tc .vmem S4096x256 .bf16) (x3 : Vec Ideal S2048x256 .i8) (x4 : Vec Ideal S32x256 .bf16) (x5 : Vec Ideal S4096x16 .bf16) (x6 : Vec Ideal S16x256 .bf16) :
    v.readCov [⟨Rect.unit (s := S4096x256) ![3584, 0] ![512, 256] inb_S4096x256_S512x256_3584_0,
      k0_pay32 (View.ld (Val := Elt Ideal) (S := S2048x256) (e' := .i8) x3 (Rect.unit (s := S2048x256) ![1792, 0] ![256, 256] inb_S2048x256_S256x256_1792_0))
        (View.ld (Val := Elt Ideal) (S := S32x256) (e' := .bf16) x4 (Rect.unit (s := S32x256) ![28, 0] ![4, 256] inb_S32x256_S4x256_28_0))
        (View.ld (Val := Elt Ideal) (S := S4096x16) (e' := .bf16) x5 (Rect.unit (s := S4096x16) ![3584, 0] ![512, 16] inb_S4096x16_S512x16_3584_0))
        (View.ld (Val := Elt Ideal) (S := S16x256) (e' := .bf16) x6 (Rect.unit (s := S16x256) ![0, 0] ![16, 256] inb_S16x256_S16x256_0_0))⟩,
    ⟨Rect.unit (s := S4096x256) ![3072, 0] ![512, 256] inb_S4096x256_S512x256_3072_0,
      k0_pay32 (View.ld (Val := Elt Ideal) (S := S2048x256) (e' := .i8) x3 (Rect.unit (s := S2048x256) ![1536, 0] ![256, 256] inb_S2048x256_S256x256_1536_0))
        (View.ld (Val := Elt Ideal) (S := S32x256) (e' := .bf16) x4 (Rect.unit (s := S32x256) ![24, 0] ![4, 256] inb_S32x256_S4x256_24_0))
        (View.ld (Val := Elt Ideal) (S := S4096x16) (e' := .bf16) x5 (Rect.unit (s := S4096x16) ![3072, 0] ![512, 16] inb_S4096x16_S512x16_3072_0))
        (View.ld (Val := Elt Ideal) (S := S16x256) (e' := .bf16) x6 (Rect.unit (s := S16x256) ![0, 0] ![16, 256] inb_S16x256_S16x256_0_0))⟩,
    ⟨Rect.unit (s := S4096x256) ![2560, 0] ![512, 256] inb_S4096x256_S512x256_2560_0,
      k0_pay32 (View.ld (Val := Elt Ideal) (S := S2048x256) (e' := .i8) x3 (Rect.unit (s := S2048x256) ![1280, 0] ![256, 256] inb_S2048x256_S256x256_1280_0))
        (View.ld (Val := Elt Ideal) (S := S32x256) (e' := .bf16) x4 (Rect.unit (s := S32x256) ![20, 0] ![4, 256] inb_S32x256_S4x256_20_0))
        (View.ld (Val := Elt Ideal) (S := S4096x16) (e' := .bf16) x5 (Rect.unit (s := S4096x16) ![2560, 0] ![512, 16] inb_S4096x16_S512x16_2560_0))
        (View.ld (Val := Elt Ideal) (S := S16x256) (e' := .bf16) x6 (Rect.unit (s := S16x256) ![0, 0] ![16, 256] inb_S16x256_S16x256_0_0))⟩,
    ⟨Rect.unit (s := S4096x256) ![2048, 0] ![512, 256] inb_S4096x256_S512x256_2048_0,
      k0_pay32 (View.ld (Val := Elt Ideal) (S := S2048x256) (e' := .i8) x3 (Rect.unit (s := S2048x256) ![1024, 0] ![256, 256] inb_S2048x256_S256x256_1024_0))
        (View.ld (Val := Elt Ideal) (S := S32x256) (e' := .bf16) x4 (Rect.unit (s := S32x256) ![16, 0] ![4, 256] inb_S32x256_S4x256_16_0))
        (View.ld (Val := Elt Ideal) (S := S4096x16) (e' := .bf16) x5 (Rect.unit (s := S4096x16) ![2048, 0] ![512, 16] inb_S4096x16_S512x16_2048_0))
        (View.ld (Val := Elt Ideal) (S := S16x256) (e' := .bf16) x6 (Rect.unit (s := S16x256) ![0, 0] ![16, 256] inb_S16x256_S16x256_0_0))⟩,
    ⟨Rect.unit (s := S4096x256) ![1536, 0] ![512, 256] inb_S4096x256_S512x256_1536_0,
      k0_pay32 (View.ld (Val := Elt Ideal) (S := S2048x256) (e' := .i8) x3 (Rect.unit (s := S2048x256) ![768, 0] ![256, 256] inb_S2048x256_S256x256_768_0))
        (View.ld (Val := Elt Ideal) (S := S32x256) (e' := .bf16) x4 (Rect.unit (s := S32x256) ![12, 0] ![4, 256] inb_S32x256_S4x256_12_0))
        (View.ld (Val := Elt Ideal) (S := S4096x16) (e' := .bf16) x5 (Rect.unit (s := S4096x16) ![1536, 0] ![512, 16] inb_S4096x16_S512x16_1536_0))
        (View.ld (Val := Elt Ideal) (S := S16x256) (e' := .bf16) x6 (Rect.unit (s := S16x256) ![0, 0] ![16, 256] inb_S16x256_S16x256_0_0))⟩,
    ⟨Rect.unit (s := S4096x256) ![1024, 0] ![512, 256] inb_S4096x256_S512x256_1024_0,
      k0_pay32 (View.ld (Val := Elt Ideal) (S := S2048x256) (e' := .i8) x3 (Rect.unit (s := S2048x256) ![512, 0] ![256, 256] inb_S2048x256_S256x256_512_0))
        (View.ld (Val := Elt Ideal) (S := S32x256) (e' := .bf16) x4 (Rect.unit (s := S32x256) ![8, 0] ![4, 256] inb_S32x256_S4x256_8_0))
        (View.ld (Val := Elt Ideal) (S := S4096x16) (e' := .bf16) x5 (Rect.unit (s := S4096x16) ![1024, 0] ![512, 16] inb_S4096x16_S512x16_1024_0))
        (View.ld (Val := Elt Ideal) (S := S16x256) (e' := .bf16) x6 (Rect.unit (s := S16x256) ![0, 0] ![16, 256] inb_S16x256_S16x256_0_0))⟩,
    ⟨Rect.unit (s := S4096x256) ![512, 0] ![512, 256] inb_S4096x256_S512x256_512_0,
      k0_pay32 (View.ld (Val := Elt Ideal) (S := S2048x256) (e' := .i8) x3 (Rect.unit (s := S2048x256) ![256, 0] ![256, 256] inb_S2048x256_S256x256_256_0))
        (View.ld (Val := Elt Ideal) (S := S32x256) (e' := .bf16) x4 (Rect.unit (s := S32x256) ![4, 0] ![4, 256] inb_S32x256_S4x256_4_0))
        (View.ld (Val := Elt Ideal) (S := S4096x16) (e' := .bf16) x5 (Rect.unit (s := S4096x16) ![512, 0] ![512, 16] inb_S4096x16_S512x16_512_0))
        (View.ld (Val := Elt Ideal) (S := S16x256) (e' := .bf16) x6 (Rect.unit (s := S16x256) ![0, 0] ![16, 256] inb_S16x256_S16x256_0_0))⟩,
    ⟨Rect.unit (s := S4096x256) ![0, 0] ![512, 256] inb_S4096x256_S512x256_0_0,
      k0_pay32 (View.ld (Val := Elt Ideal) (S := S2048x256) (e' := .i8) x3 (Rect.unit (s := S2048x256) ![0, 0] ![256, 256] inb_S2048x256_S256x256_0_0))
        (View.ld (Val := Elt Ideal) (S := S32x256) (e' := .bf16) x4 (Rect.unit (s := S32x256) ![0, 0] ![4, 256] inb_S32x256_S4x256_0_0))
        (View.ld (Val := Elt Ideal) (S := S4096x16) (e' := .bf16) x5 (Rect.unit (s := S4096x16) ![0, 0] ![512, 16] inb_S4096x16_S512x16_0_0))
        (View.ld (Val := Elt Ideal) (S := S16x256) (e' := .bf16) x6 (Rect.unit (s := S16x256) ![0, 0] ![16, 256] inb_S16x256_S16x256_0_0))⟩] (Rect.unit (s := S4096x256) ![0, 0] ![4096, 256] inb_S4096x256_S4096x256_0_0).toLoadRect = vB x3 x4 x5 x6 :=
  readCov_of_pieces v hz _ (vL x3 x4 x5 x6) (vB x3 x4 x5 x6) (vL_pieces x3 x4 x5 x6) (vL_cover x3 x4 x5 x6)

/-- What the activation scratch holds after its stores. -/
theorem canon_xh (x1 : Vec Ideal S1024x4096 .fp8e4m3) (x2 : Vec Ideal S1024x128 .f32) : View.canon (xhL x1 x2) = xhB x1 x2 :=
  funext fun y => View.canon_apply_of_pieces _ _ (xhL_pieces x1 x2) y (xhL_cover x1 x2 y)

/-- A reshape to the same shape is the identity. -/
theorem pay47_eq (n : Vec Ideal S1x256 .f32) : k0_pay47 n = n := by unfold k0_pay47; exact shapeCast_self _ _

/-- The rescaled gradient of a tile, from its blocks. -/
abbrev dypB (x0 : Vec Ideal S1024x256 .bf16) (x7 x8 : Vec Ideal S1x256 .f32) : Fin 1024 → Fin 256 → EReal := dypM (m2 x0) (row x7) (row x8)

/-- The tile's adapted weights, from its blocks. -/
abbrev vB' (x3 : Vec Ideal S2048x256 .i8) (x4 : Vec Ideal S32x256 .bf16) (x5 : Vec Ideal S4096x16 .bf16) (x6 : Vec Ideal S16x256 .bf16) :
    Fin 4096 → Fin 256 → EReal := vM (m2 x3) (m2 x4) (m2 x5) (m2 x6)

variable (c : Dev nD) (i : grid0.Coords) (arg1 : Memref sig .tc .vmem S1024x256 .bf16) (harg1 : arg1.IsWhole) (arg2 : Memref sig .tc .vmem S1024x4096 .fp8e4m3) (harg2 : arg2.IsWhole) (arg3 : Memref sig .tc .vmem S1024x128 .f32) (harg3 : arg3.IsWhole) (arg4 : Memref sig .tc .vmem S2048x256 .i8) (harg4 : arg4.IsWhole) (arg5 : Memref sig .tc .vmem S32x256 .bf16) (harg5 : arg5.IsWhole) (arg6 : Memref sig .tc .vmem S4096x16 .bf16) (harg6 : arg6.IsWhole) (arg7 : Memref sig .tc .vmem S16x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x4096 .bf16) (harg10 : arg10.IsWhole) (arg11 : Memref sig .tc .vmem S4096x16 .bf16) (harg11 : arg11.IsWhole) (arg12 : Memref sig .tc .vmem S16x256 .bf16) (harg12 : arg12.IsWhole) (arg13 : Memref sig .tc .vmem S1x256 .f32) (harg13 : arg13.IsWhole) (arg14 : Memref sig .tc .vmem S1024x4096 .bf16) (harg14 : arg14.IsWhole) (arg15 : Memref sig .tc .vmem S4096x256 .bf16) (harg15 : arg15.IsWhole) (arg16 : Memref sig .tc .vmem S1024x4096 .f32) (harg16 : arg16.IsWhole) (arg17 : Memref sig .tc .vmem S1024x16 .f32) (harg17 : arg17.IsWhole) (arg18 : Memref sig .tc .vmem S1024x16 .bf16) (harg18 : arg18.IsWhole)

section
variable (hc0 : cond0_0 i) (hc1 : ¬cond0_1 i)
    (x0 : Vec Ideal S1024x256 .bf16) (x1 : Vec Ideal S1024x4096 .fp8e4m3) (x2 : Vec Ideal S1024x128 .f32) (x3 : Vec Ideal S2048x256 .i8) (x4 : Vec Ideal S32x256 .bf16) (x5 : Vec Ideal S4096x16 .bf16) (x6 : Vec Ideal S16x256 .bf16) (x7 : Vec Ideal S1x256 .f32) (x8 : Vec Ideal S1x256 .f32)

/-- Case A: the activation scratch holds the dequantized activation. -/
theorem sout0_A_0_eq : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8
    = xhB x1 x2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  exact canon_xh x1 x2

/-- Case A: the dx accumulator holds the tile's product. -/
theorem sout0_A_2_eq : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8
    = un fun t d => 0 + dxM (dypB x0 x7 x8) (vB' x3 x4 x5 x6) t d := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  simp only [tile_1, tile_2, tile_3, tile_4, tile_5, tile_6, tile_7]
  simp only [readCov_v]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay50_apply]
  rw [pay31_apply]
  try rfl

/-- Case A: the h accumulator holds the tile's product. -/
theorem sout0_A_3_eq : sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8
    = un fun t r => 0 + hM (dypB x0 x7 x8) (m2 x6) t r := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay52_apply]
  rw [pay30_apply]
  try rfl

/-- Case A: the scratch holds xa. -/
theorem sout0_A_4_eq : sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8
    = un (xaM (m2 (xhB x1 x2)) (m2 x5)) := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rw [spread_0, spread_1, spread_2, spread_3, spread_4, spread_5, spread_6, spread_7]
  rw [readCov_xh]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay29_apply]
  try rfl

/-- Case A: the tile of dB. -/
theorem out0_A_11_eq : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8
    = un (dbM (xaM (m2 (xhB x1 x2)) (m2 x5)) (dypB x0 x7 x8)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rw [spread_0, spread_1, spread_2, spread_3, spread_4, spread_5, spread_6, spread_7]
  rw [readCov_xh]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay1_apply]
  simp only [pay49_apply, pay29_apply]
  try rfl

/-- Case A: the tile of dm. -/
theorem out0_A_12_eq : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8
    = un fun _ o => dmM (m2 x0) (row x8) (m2 (xhB x1 x2)) (vB' x3 x4 x5 x6) o := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rw [spread_0, spread_1, spread_2, spread_3, spread_4, spread_5, spread_6, spread_7]
  simp only [tile_1, tile_2, tile_3, tile_4, tile_5, tile_6, tile_7]
  rw [readCov_xh]
  simp only [readCov_v]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay51_apply]
  try rfl

end

section
variable (hc0 : ¬cond0_0 i) (hc1 : ¬cond0_1 i)
    (x0 : Vec Ideal S1024x256 .bf16) (x1 : Vec Ideal S1024x4096 .fp8e4m3) (x2 : Vec Ideal S1024x128 .f32) (x3 : Vec Ideal S2048x256 .i8) (x4 : Vec Ideal S32x256 .bf16) (x5 : Vec Ideal S4096x16 .bf16) (x6 : Vec Ideal S16x256 .bf16) (x7 : Vec Ideal S1x256 .f32) (x8 : Vec Ideal S1x256 .f32) (xs0 : Vec Ideal S1024x4096 .bf16) (xs2 : Vec Ideal S1024x4096 .f32) (xs3 : Vec Ideal S1024x16 .f32) (xs4 : Vec Ideal S1024x16 .bf16)

/-- Case B: the dx accumulator adds the tile's product. -/
theorem sout0_B_2_eq : sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4
    = un fun t d => m2 xs2 t d + dxM (dypB x0 x7 x8) (vB' x3 x4 x5 x6) t d := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  simp only [tile_1, tile_2, tile_3, tile_4, tile_5, tile_6, tile_7]
  simp only [readCov_v]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay50_apply]
  try rfl

/-- Case B: the h accumulator adds the tile's product. -/
theorem sout0_B_3_eq : sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4
    = un fun t r => m2 xs3 t r + hM (dypB x0 x7 x8) (m2 x6) t r := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay52_apply]
  try rfl

/-- Case B: the tile of dB. -/
theorem out0_B_11_eq : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4
    = un (dbM (m2 xs4) (dypB x0 x7 x8)) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay1_apply]
  simp only [pay49_apply]
  try rfl

/-- Case B: the tile of dm. -/
theorem out0_B_12_eq : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4
    = un fun _ o => dmM (m2 x0) (row x8) (m2 xs0) (vB' x3 x4 x5 x6) o := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  simp only [tile_1, tile_2, tile_3, tile_4, tile_5, tile_6, tile_7]
  simp only [readCov_v]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay51_apply]
  try rfl

end

section
variable (hc0 : ¬cond0_0 i) (hc1 : cond0_1 i)
    (x0 : Vec Ideal S1024x256 .bf16) (x1 : Vec Ideal S1024x4096 .fp8e4m3) (x2 : Vec Ideal S1024x128 .f32) (x3 : Vec Ideal S2048x256 .i8) (x4 : Vec Ideal S32x256 .bf16) (x5 : Vec Ideal S4096x16 .bf16) (x6 : Vec Ideal S16x256 .bf16) (x7 : Vec Ideal S1x256 .f32) (x8 : Vec Ideal S1x256 .f32) (xs0 : Vec Ideal S1024x4096 .bf16) (xs2 : Vec Ideal S1024x4096 .f32) (xs3 : Vec Ideal S1024x16 .f32) (xs4 : Vec Ideal S1024x16 .bf16)

/-- Case C: the dx accumulator adds the tile's product. -/
theorem sout0_C_2_eq : sout0_C_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4
    = un fun t d => m2 xs2 t d + dxM (dypB x0 x7 x8) (vB' x3 x4 x5 x6) t d := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  simp only [tile_1, tile_2, tile_3, tile_4, tile_5, tile_6, tile_7]
  simp only [readCov_v]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay50_apply]
  try rfl

/-- Case C: the h accumulator adds the tile's product. -/
theorem sout0_C_3_eq : sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4
    = un fun t r => m2 xs3 t r + hM (dypB x0 x7 x8) (m2 x6) t r := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay52_apply]
  try rfl

/-- Case C: the tile of dB. -/
theorem out0_C_11_eq : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4
    = un (dbM (m2 xs4) (dypB x0 x7 x8)) := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay1_apply]
  simp only [pay49_apply]
  try rfl

/-- Case C: the tile of dm. -/
theorem out0_C_12_eq : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4
    = un fun _ o => dmM (m2 x0) (row x8) (m2 xs0) (vB' x3 x4 x5 x6) o := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  simp only [tile_1, tile_2, tile_3, tile_4, tile_5, tile_6, tile_7]
  simp only [readCov_v]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay51_apply]
  try rfl

/-- Case C: the result dx is the finished accumulator. -/
theorem out0_C_9_eq : out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4
    = un fun t d => m2 xs2 t d + dxM (dypB x0 x7 x8) (vB' x3 x4 x5 x6) t d := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  simp only [tile_1, tile_2, tile_3, tile_4, tile_5, tile_6, tile_7]
  simp only [readCov_v]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay2_eq]
  rw [pay50_apply]
  try rfl

/-- Case C: the result dA from the finished h. -/
theorem out0_C_10_eq : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4
    = un (daM (m2 xs0) fun t r => m2 xs3 t r + hM (dypB x0 x7 x8) (m2 x6) t r) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3 xs4)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rw [View.canon_cons_unit_zero hz]
  simp only [View.ld_unit_zero (S := S1024x256) hz, View.ld_unit_zero (S := S1024x4096) hz, View.ld_unit_zero (S := S1024x128) hz, View.ld_unit_zero (S := S4096x16) hz, View.ld_unit_zero (S := S16x256) hz, View.ld_unit_zero (S := S1x256) hz, View.ld_unit_zero (S := S1024x16) hz, pay47_eq, View.readCov_unit_zero (S := S1024x4096) _ hz, View.readCov_unit_zero (S := S1024x16) _ hz,
    View.readCov_eq_canon_ld]
  refine eq_un fun r o => ?_
  rw [pay3_apply]
  simp only [pay52_apply]
  try rfl

end

end Cert.Dora

end
-- ==== Proof.Fold.lean ====
/- What the grid accumulates: by induction on the grid point, the carried buffers after point `n` hold the activation, the sum of
   the first `n + 1` tiles' products, and `xa`; and what each point leaves in the blocks of the results. -/
module

public import proofs.«01_k».proof.Proof.Blocks
public import proofs.«01_k».proof.Proof.Cases

@[expose] public section

noncomputable section

namespace Cert.Dora

open Idealize.ShloMosaic Idealize.ShloMosaic.TcCoe Idealize.SL.Sem
open Cert.KernelIdeal Cert.KernelIdeal.Gen

/-- A running sum over the tiles, started at zero. -/
def psum (f : Fin 43 → EReal) : (n : ℕ) → n < 43 → EReal
  | 0, h => 0 + f ⟨0, h⟩
  | n + 1, h => psum f n (Nat.lt_of_succ_lt h) + f ⟨n + 1, h⟩

/-- The running sum is the sum of the tiles so far. -/
theorem psum_eq (f : Fin 43 → EReal) : ∀ (n : ℕ) (h : n < 43), psum f n h = ∑ j : Fin (n + 1), f ⟨j.val, by omega⟩
  | 0, h => by simp [psum]
  | n + 1, h => by
    rw [psum, psum_eq f n]
    exact (Fin.sum_univ_castSucc fun j : Fin (n + 2) => f ⟨j.val, by omega⟩).symm

/-- After the last tile it is the whole sum. -/
theorem psum_last (f : Fin 43 → EReal) : psum f 42 (by decide) = ∑ j, f j := psum_eq f 42 (by decide)

variable (m : (ℓ : Loc nD τ sig) → Buf (Elt Ideal) ℓ) (c : Dev nD)

/-! ## The whole arrays the kernel works on -/

/-- The upstream gradient. -/
abbrev DY : Fin 1024 → Fin 11008 → EReal := m2 (V m c main_v0 : Vec Ideal S1024x11008 .bf16)
/-- The packed weight codes. -/
abbrev WQ : Fin 2048 → Fin 11008 → BitVec 8 := m2 (V m c main_arg3 : Vec Ideal S2048x11008 .i8)
/-- The weight scales. -/
abbrev WS : Fin 32 → Fin 11008 → EReal := m2 (V m c main_arg4 : Vec Ideal S32x11008 .bf16)
/-- The adapter `A`. -/
abbrev LA : Fin 4096 → Fin 16 → EReal := m2 (V m c main_arg5 : Vec Ideal S4096x16 .bf16)
/-- The adapter `B`. -/
abbrev LB : Fin 16 → Fin 11008 → EReal := m2 (V m c main_arg6 : Vec Ideal S16x11008 .bf16)
/-- The magnitudes. -/
abbrev MG : Fin 11008 → EReal := row (V m c main_v3 : Vec Ideal S1x11008 .f32)
/-- The column norms. -/
abbrev CN : Fin 11008 → EReal := row (V m c main_v4 : Vec Ideal S1x11008 .f32)
/-- The dequantized activation. -/
abbrev XH : Vec Ideal S1024x4096 .bf16 := xhB (V m c main_v1 : Vec Ideal S1024x4096 .fp8e4m3) (V m c main_v2 : Vec Ideal S1024x128 .f32)
/-- The rescaled gradient. -/
abbrev dypA : Fin 1024 → Fin 11008 → EReal := dypM (DY m c) (MG m c) (CN m c)
/-- The adapted weights. -/
abbrev vA : Fin 4096 → Fin 11008 → EReal := vM (WQ m c) (WS m c) (LA m c) (LB m c)
/-- A tile's share of `dx`. -/
abbrev dxT (t : Fin 1024) (d : Fin 4096) (j : Fin 43) : EReal := dxM (fun r k => dypA m c r (col j k)) (fun r k => vA m c r (col j k)) t d
/-- A tile's share of `h`. -/
abbrev hT (t : Fin 1024) (r : Fin 16) (j : Fin 43) : EReal := hM (fun r k => dypA m c r (col j k)) (fun r k => LB m c r (col j k)) t r
/-- `xa`. -/
abbrev XA : Fin 1024 → Fin 16 → EReal := xaM (m2 (XH m c)) (LA m c)

/-! ## A tile's blocks -/

/-- A point's rescaled gradient is its columns of the whole one. -/
theorem dypB_eq (t : Fin cfg0.N) : dypB (iblk m c 0 t) (iblk m c 7 t) (iblk m c 8 t) = fun r k => dypA m c r (col (tile t) k) := by
  rw [iblk_0, iblk_7, iblk_8]; rfl

/-- A point's adapted weights are its columns of the whole ones. -/
theorem vB'_eq (t : Fin cfg0.N) : vB' (iblk m c 3 t) (iblk m c 4 t) (iblk m c 5 t) (iblk m c 6 t) = fun r k => vA m c r (col (tile t) k) := by
  rw [iblk_3, iblk_4, iblk_5, iblk_6]; rfl

/-- A point's columns of `B`. -/
theorem bB_eq (t : Fin cfg0.N) : m2 (iblk m c 6 t : Vec Ideal S16x256 .bf16) = fun r k => LB m c r (col (tile t) k) := by
  rw [iblk_6]; rfl

/-- A point's columns of the gradient. -/
theorem dyB_eq (t : Fin cfg0.N) : m2 (iblk m c 0 t : Vec Ideal S1024x256 .bf16) = fun r k => DY m c r (col (tile t) k) := by
  rw [iblk_0]; rfl

/-- A point's columns of the norms. -/
theorem nB_eq (t : Fin cfg0.N) : row (iblk m c 8 t : Vec Ideal S1x256 .f32) = fun k => CN m c (col (tile t) k) := by
  rw [iblk_8]; rfl

/-- The activation block at the first point is the activation. -/
theorem xhB_eq (t : Fin cfg0.N) : xhB (iblk m c 1 t) (iblk m c 2 t) = XH m c := by
  rw [iblk_1, iblk_2]

/-- The adapter block is the adapter. -/
theorem aB_eq (t : Fin cfg0.N) : m2 (iblk m c 5 t : Vec Ideal S4096x16 .bf16) = LA m c := by
  rw [iblk_5]

/-- The state before a point after the first: what the point before left. -/
abbrev prev (t : Fin cfg0.N) := outsAt0 m c (t.val - 1) (Nat.lt_of_le_of_lt (Nat.sub_le _ _) t.isLt)

/-! ## Case A at a point -/

/-- Case A: the activation. -/
theorem at_A_x0 (t : Fin cfg0.N) (h0 : t.val % 43 = 0) (h1 : ¬t.val % 43 = 42) : (outsAt0 m c t.val t.isLt).2.2.2.2.1 = XH m c := by
  refine (congrArg (fun x => x.2.2.2.2.1) (outsAt0_A m c t h0 h1)).trans ?_
  dsimp only
  rw [sout0_A_0_eq]
  rw [xhB_eq]

/-- Case A: the tile's share of dx. -/
theorem at_A_x2 (t : Fin cfg0.N) (h0 : t.val % 43 = 0) (h1 : ¬t.val % 43 = 42) : (outsAt0 m c t.val t.isLt).2.2.2.2.2.1 = un fun r d => 0 + dxT m c r d (tile t) := by
  refine (congrArg (fun x => x.2.2.2.2.2.1) (outsAt0_A m c t h0 h1)).trans ?_
  dsimp only
  rw [sout0_A_2_eq]
  rw [dypB_eq, vB'_eq]

/-- Case A: the tile's share of h. -/
theorem at_A_x3 (t : Fin cfg0.N) (h0 : t.val % 43 = 0) (h1 : ¬t.val % 43 = 42) : (outsAt0 m c t.val t.isLt).2.2.2.2.2.2.1 = un fun r q => 0 + hT m c r q (tile t) := by
  refine (congrArg (fun x => x.2.2.2.2.2.2.1) (outsAt0_A m c t h0 h1)).trans ?_
  dsimp only
  rw [sout0_A_3_eq]
  rw [dypB_eq, bB_eq]

/-- Case A: xa. -/
theorem at_A_x4 (t : Fin cfg0.N) (h0 : t.val % 43 = 0) (h1 : ¬t.val % 43 = 42) : (outsAt0 m c t.val t.isLt).2.2.2.2.2.2.2 = un (XA m c) := by
  refine (congrArg (fun x => x.2.2.2.2.2.2.2) (outsAt0_A m c t h0 h1)).trans ?_
  dsimp only
  rw [sout0_A_4_eq]
  rw [xhB_eq, aB_eq]

/-- Case A: the tile of dB. -/
theorem at_A_11 (t : Fin cfg0.N) (h0 : t.val % 43 = 0) (h1 : ¬t.val % 43 = 42) : (outsAt0 m c t.val t.isLt).2.2.1 = un (dbM (XA m c) fun r k => dypA m c r (col (tile t) k)) := by
  refine (congrArg (fun x => x.2.2.1) (outsAt0_A m c t h0 h1)).trans ?_
  dsimp only
  rw [out0_A_11_eq]
  rw [dypB_eq, xhB_eq, aB_eq]

/-- Case A: the tile of dm. -/
theorem at_A_12 (t : Fin cfg0.N) (h0 : t.val % 43 = 0) (h1 : ¬t.val % 43 = 42) : (outsAt0 m c t.val t.isLt).2.2.2.1 = un fun _ o => dmM (fun r k => DY m c r (col (tile t) k)) (fun k => CN m c (col (tile t) k)) (m2 (XH m c)) (fun r k => vA m c r (col (tile t) k)) o := by
  refine (congrArg (fun x => x.2.2.2.1) (outsAt0_A m c t h0 h1)).trans ?_
  dsimp only
  rw [out0_A_12_eq]
  rw [dyB_eq, nB_eq, vB'_eq, xhB_eq]

/-! ## Case B at a point -/

/-- Case B: the activation stays. -/
theorem at_B_x0 (t : Fin cfg0.N) (h0 : ¬t.val % 43 = 0) (h1 : ¬t.val % 43 = 42) : (outsAt0 m c t.val t.isLt).2.2.2.2.1 = (prev m c t).2.2.2.2.1 := by
  refine (congrArg (fun x => x.2.2.2.2.1) (outsAt0_B m c t h0 h1)).trans ?_
  rfl

/-- Case B: the tile's share of dx is added. -/
theorem at_B_x2 (t : Fin cfg0.N) (h0 : ¬t.val % 43 = 0) (h1 : ¬t.val % 43 = 42) : (outsAt0 m c t.val t.isLt).2.2.2.2.2.1 = un fun r d => m2 (a := 1024) (b := 4096) ((prev m c t).2.2.2.2.2.1) r d + dxT m c r d (tile t) := by
  refine (congrArg (fun x => x.2.2.2.2.2.1) (outsAt0_B m c t h0 h1)).trans ?_
  dsimp only
  rw [sout0_B_2_eq]
  rw [dypB_eq, vB'_eq]

/-- Case B: the tile's share of h is added. -/
theorem at_B_x3 (t : Fin cfg0.N) (h0 : ¬t.val % 43 = 0) (h1 : ¬t.val % 43 = 42) : (outsAt0 m c t.val t.isLt).2.2.2.2.2.2.1 = un fun r q => m2 (a := 1024) (b := 16) ((prev m c t).2.2.2.2.2.2.1) r q + hT m c r q (tile t) := by
  refine (congrArg (fun x => x.2.2.2.2.2.2.1) (outsAt0_B m c t h0 h1)).trans ?_
  dsimp only
  rw [sout0_B_3_eq]
  rw [dypB_eq, bB_eq]

/-- Case B: xa stays. -/
theorem at_B_x4 (t : Fin cfg0.N) (h0 : ¬t.val % 43 = 0) (h1 : ¬t.val % 43 = 42) : (outsAt0 m c t.val t.isLt).2.2.2.2.2.2.2 = (prev m c t).2.2.2.2.2.2.2 := by
  refine (congrArg (fun x => x.2.2.2.2.2.2.2) (outsAt0_B m c t h0 h1)).trans ?_
  rfl

/-- Case B: the tile of dB. -/
theorem at_B_11 (t : Fin cfg0.N) (h0 : ¬t.val % 43 = 0) (h1 : ¬t.val % 43 = 42) : (outsAt0 m c t.val t.isLt).2.2.1 = un (dbM (m2 (a := 1024) (b := 16) ((prev m c t).2.2.2.2.2.2.2)) fun r k => dypA m c r (col (tile t) k)) := by
  refine (congrArg (fun x => x.2.2.1) (outsAt0_B m c t h0 h1)).trans ?_
  dsimp only
  rw [out0_B_11_eq]
  rw [dypB_eq]

/-- Case B: the tile of dm. -/
theorem at_B_12 (t : Fin cfg0.N) (h0 : ¬t.val % 43 = 0) (h1 : ¬t.val % 43 = 42) : (outsAt0 m c t.val t.isLt).2.2.2.1 = un fun _ o => dmM (fun r k => DY m c r (col (tile t) k)) (fun k => CN m c (col (tile t) k)) (m2 (a := 1024) (b := 4096) ((prev m c t).2.2.2.2.1)) (fun r k => vA m c r (col (tile t) k)) o := by
  refine (congrArg (fun x => x.2.2.2.1) (outsAt0_B m c t h0 h1)).trans ?_
  dsimp only
  rw [out0_B_12_eq]
  rw [dyB_eq, nB_eq, vB'_eq]

/-! ## Case C at a point -/

/-- Case C: the activation stays. -/
theorem at_C_x0 (t : Fin cfg0.N) (h0 : ¬t.val % 43 = 0) (h1 : t.val % 43 = 42) : (outsAt0 m c t.val t.isLt).2.2.2.2.1 = (prev m c t).2.2.2.2.1 := by
  refine (congrArg (fun x => x.2.2.2.2.1) (outsAt0_C m c t h0 h1)).trans ?_
  rfl

/-- Case C: the tile's share of dx is added. -/
theorem at_C_x2 (t : Fin cfg0.N) (h0 : ¬t.val % 43 = 0) (h1 : t.val % 43 = 42) : (outsAt0 m c t.val t.isLt).2.2.2.2.2.1 = un fun r d => m2 (a := 1024) (b := 4096) ((prev m c t).2.2.2.2.2.1) r d + dxT m c r d (tile t) := by
  refine (congrArg (fun x => x.2.2.2.2.2.1) (outsAt0_C m c t h0 h1)).trans ?_
  dsimp only
  rw [sout0_C_2_eq]
  rw [dypB_eq, vB'_eq]

/-- Case C: the tile's share of h is added. -/
theorem at_C_x3 (t : Fin cfg0.N) (h0 : ¬t.val % 43 = 0) (h1 : t.val % 43 = 42) : (outsAt0 m c t.val t.isLt).2.2.2.2.2.2.1 = un fun r q => m2 (a := 1024) (b := 16) ((prev m c t).2.2.2.2.2.2.1) r q + hT m c r q (tile t) := by
  refine (congrArg (fun x => x.2.2.2.2.2.2.1) (outsAt0_C m c t h0 h1)).trans ?_
  dsimp only
  rw [sout0_C_3_eq]
  rw [dypB_eq, bB_eq]

/-- Case C: xa stays. -/
theorem at_C_x4 (t : Fin cfg0.N) (h0 : ¬t.val % 43 = 0) (h1 : t.val % 43 = 42) : (outsAt0 m c t.val t.isLt).2.2.2.2.2.2.2 = (prev m c t).2.2.2.2.2.2.2 := by
  refine (congrArg (fun x => x.2.2.2.2.2.2.2) (outsAt0_C m c t h0 h1)).trans ?_
  rfl

/-- Case C: the tile of dB. -/
theorem at_C_11 (t : Fin cfg0.N) (h0 : ¬t.val % 43 = 0) (h1 : t.val % 43 = 42) : (outsAt0 m c t.val t.isLt).2.2.1 = un (dbM (m2 (a := 1024) (b := 16) ((prev m c t).2.2.2.2.2.2.2)) fun r k => dypA m c r (col (tile t) k)) := by
  refine (congrArg (fun x => x.2.2.1) (outsAt0_C m c t h0 h1)).trans ?_
  dsimp only
  rw [out0_C_11_eq]
  rw [dypB_eq]

/-- Case C: the tile of dm. -/
theorem at_C_12 (t : Fin cfg0.N) (h0 : ¬t.val % 43 = 0) (h1 : t.val % 43 = 42) : (outsAt0 m c t.val t.isLt).2.2.2.1 = un fun _ o => dmM (fun r k => DY m c r (col (tile t) k)) (fun k => CN m c (col (tile t) k)) (m2 (a := 1024) (b := 4096) ((prev m c t).2.2.2.2.1)) (fun r k => vA m c r (col (tile t) k)) o := by
  refine (congrArg (fun x => x.2.2.2.1) (outsAt0_C m c t h0 h1)).trans ?_
  dsimp only
  rw [out0_C_12_eq]
  rw [dyB_eq, nB_eq, vB'_eq]

/-- Case C: dx is the finished accumulator. -/
theorem at_C_9 (t : Fin cfg0.N) (h0 : ¬t.val % 43 = 0) (h1 : t.val % 43 = 42) : (outsAt0 m c t.val t.isLt).1 = un fun r d => m2 (a := 1024) (b := 4096) ((prev m c t).2.2.2.2.2.1) r d + dxT m c r d (tile t) := by
  refine (congrArg (fun x => x.1) (outsAt0_C m c t h0 h1)).trans ?_
  dsimp only
  rw [out0_C_9_eq]
  rw [dypB_eq, vB'_eq]

/-- Case C: dA from the finished h. -/
theorem at_C_10 (t : Fin cfg0.N) (h0 : ¬t.val % 43 = 0) (h1 : t.val % 43 = 42) : (outsAt0 m c t.val t.isLt).2.1 = un (daM (m2 (a := 1024) (b := 4096) ((prev m c t).2.2.2.2.1)) fun r q => m2 (a := 1024) (b := 16) ((prev m c t).2.2.2.2.2.2.1) r q + hT m c r q (tile t)) := by
  refine (congrArg (fun x => x.2.1) (outsAt0_C m c t h0 h1)).trans ?_
  dsimp only
  rw [out0_C_10_eq]
  rw [dypB_eq, bB_eq]

/-! ## The induction -/

/-- After point `n` the carried buffers hold the activation, the sums of the first `n + 1` tiles' shares, and `xa`. -/
theorem carried : ∀ (n : ℕ) (h : n < cfg0.N) (h' : n < 43),
    (outsAt0 m c n h).2.2.2.2.1 = XH m c
    ∧ (outsAt0 m c n h).2.2.2.2.2.1 = un (fun r d => psum (dxT m c r d) n h')
    ∧ (outsAt0 m c n h).2.2.2.2.2.2.1 = un (fun r q => psum (hT m c r q) n h')
    ∧ (outsAt0 m c n h).2.2.2.2.2.2.2 = un (XA m c)
  | 0, h, h' => ⟨at_A_x0 m c ⟨0, h⟩ rfl (by dsimp only; omega), at_A_x2 m c ⟨0, h⟩ rfl (by dsimp only; omega), at_A_x3 m c ⟨0, h⟩ rfl (by dsimp only; omega),
      at_A_x4 m c ⟨0, h⟩ rfl (by dsimp only; omega)⟩
  | n + 1, h, h' => by
    obtain ⟨e0, e2, e3, e4⟩ := carried n (Nat.lt_of_succ_lt h) (Nat.lt_of_succ_lt h')
    have h0 : ¬(⟨n + 1, h⟩ : Fin cfg0.N).val % 43 = 0 := by dsimp only; omega
    have ep : prev m c ⟨n + 1, h⟩ = outsAt0 m c n (Nat.lt_of_succ_lt h) := rfl
    by_cases h1 : (⟨n + 1, h⟩ : Fin cfg0.N).val % 43 = 42
    · refine ⟨(at_C_x0 m c _ h0 h1).trans ?_, (at_C_x2 m c _ h0 h1).trans ?_, (at_C_x3 m c _ h0 h1).trans ?_, (at_C_x4 m c _ h0 h1).trans ?_⟩
      · rw [ep, e0]
      · rw [ep, e2]; rfl
      · rw [ep, e3]; rfl
      · rw [ep, e4]
    · refine ⟨(at_B_x0 m c _ h0 h1).trans ?_, (at_B_x2 m c _ h0 h1).trans ?_, (at_B_x3 m c _ h0 h1).trans ?_, (at_B_x4 m c _ h0 h1).trans ?_⟩
      · rw [ep, e0]
      · rw [ep, e2]; rfl
      · rw [ep, e3]; rfl
      · rw [ep, e4]

/-- The block of `dB` that point `t` leaves. -/
theorem at_dB (t : Fin cfg0.N) : (outsAt0 m c t.val t.isLt).2.2.1 = un (dbM (XA m c) fun r k => dypA m c r (col (tile t) k)) := by
  by_cases h0 : t.val % 43 = 0
  · exact at_A_11 m c t h0 (by omega)
  · have hN := (tile t).isLt
    obtain ⟨e0, e2, e3, e4⟩ := carried m c (t.val - 1) (Nat.lt_of_le_of_lt (Nat.sub_le _ _) t.isLt) (Nat.lt_of_le_of_lt (Nat.sub_le _ _) hN)
    by_cases h1 : t.val % 43 = 42
    · rw [at_C_11 m c t h0 h1, e4]; rfl
    · rw [at_B_11 m c t h0 h1, e4]; rfl

/-- The block of `dm` that point `t` leaves. -/
theorem at_dm (t : Fin cfg0.N) : (outsAt0 m c t.val t.isLt).2.2.2.1
    = un fun _ o => dmM (fun r k => DY m c r (col (tile t) k)) (fun k => CN m c (col (tile t) k)) (m2 (XH m c)) (fun r k => vA m c r (col (tile t) k)) o := by
  by_cases h0 : t.val % 43 = 0
  · exact at_A_12 m c t h0 (by omega)
  · have hN := (tile t).isLt
    obtain ⟨e0, e2, e3, e4⟩ := carried m c (t.val - 1) (Nat.lt_of_le_of_lt (Nat.sub_le _ _) t.isLt) (Nat.lt_of_le_of_lt (Nat.sub_le _ _) hN)
    by_cases h1 : t.val % 43 = 42
    · rw [at_C_12 m c t h0 h1, e0]
    · rw [at_B_12 m c t h0 h1, e0]

/-- The finished accumulator of `dx`: the sum over all columns. -/
theorem dx_last (r : Fin 1024) (d : Fin 4096) : psum (dxT m c r d) 42 (by decide) = dxM (dypA m c) (vA m c) r d :=
  (psum_last (dxT m c r d)).trans (sum_tiles fun o => dypA m c r o * vA m c d o).symm

/-- The finished `h`: the sum over all columns. -/
theorem h_last (r : Fin 1024) (q : Fin 16) : psum (hT m c r q) 42 (by decide) = hM (dypA m c) (LB m c) r q :=
  (psum_last (hT m c r q)).trans (sum_tiles fun o => dypA m c r o * LB m c q o).symm

/-- What the last point leaves in `dx`: the sum over all columns. -/
theorem at_dx (t : Fin cfg0.N) (h1 : t.val = 42) : (outsAt0 m c t.val t.isLt).1 = un (dxM (dypA m c) (vA m c)) := by
  rw [at_C_9 m c t (by omega) (by omega), ← at_C_x2 m c t (by omega) (by omega), (carried m c t.val t.isLt (tile t).isLt).2.1]
  refine congrArg un (funext fun r => funext fun d => ?_)
  rw [← dx_last]
  congr 1

/-- What the last point leaves in `dA`. -/
theorem at_dA (t : Fin cfg0.N) (h1 : t.val = 42) : (outsAt0 m c t.val t.isLt).2.1 = un (daM (m2 (XH m c)) (hM (dypA m c) (LB m c))) := by
  have e3 := (at_C_x3 m c t (by omega) (by omega)).symm.trans (carried m c t.val t.isLt (tile t).isLt).2.2.1
  have e0 := (at_C_x0 m c t (by omega) (by omega)).symm.trans (carried m c t.val t.isLt (tile t).isLt).1
  rw [at_C_10 m c t (by omega) (by omega), e0]
  refine congrArg (fun h => un (daM (m2 (XH m c)) h)) (funext fun r => funext fun q => ?_)
  refine (congrFun e3 (ix2 r q)).trans ?_
  rw [← h_last]
  show psum _ _ _ = _
  congr 1

end Cert.Dora

end
-- ==== Proof.Arrays.lean ====
/- What the kernel's four result arrays hold after the run, as functions of the operands. -/
module

public import proofs.«01_k».proof.Proof.Fold
public import proofs.«01_k».proof.Proof.Gen.KernelIdeal.Value

@[expose] public section

noncomputable section

namespace Cert.Dora

open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (c : Dev nD)

/-- The array `dx` after the run. -/
theorem G9_eq : G9 m c = (un (dxM (dypA m c) (vA m c)) : Vec Ideal S1024x4096 .bf16) := by
  rw [G9_last, ← outsAt0_sweep]
  exact at_dx m c ⟨42, lt_of_lt_of_eq (by decide) N_0.symm⟩ rfl

/-- The array `dA` after the run. -/
theorem G10_eq : G10 m c = (un (daM (m2 (XH m c)) (hM (dypA m c) (LB m c))) : Vec Ideal S4096x16 .bf16) := by
  rw [G10_last, ← outsAt0_sweep]
  exact at_dA m c ⟨42, lt_of_lt_of_eq (by decide) N_0.symm⟩ rfl

/-- Every column is column `o % 256` of tile `o / 256`. -/
theorem col_divmod (o : Fin 11008) (h : o.val / 256 < 43) : col ⟨o.val / 256, h⟩ ⟨o.val % 256, Nat.mod_lt _ (by decide)⟩ = o :=
  Fin.ext (by show 256 * (o.val / 256) + o.val % 256 = o.val; omega)

/-- The array `dB` after the run. -/
theorem G11_eq : G11 m c = (un (dbM (XA m c) (dypA m c)) : Vec Ideal S16x11008 .bf16) := by
  funext i
  have hi0 : (i 0).val < 16 := (i 0).isLt
  have hi1 : (i 1).val < 11008 := (i 1).isLt
  have hp : pt11Of i = (i 1).val / 256 := by
    show 43 * ((i 0).val / 16 - 0) + 1 * ((i 1).val / 256 - 0) = _
    omega
  have h43 : (i 1).val / 256 < 43 := by omega
  have hN : pt11Of i < cfg0.N := by rw [hp]; exact lt_of_lt_of_eq h43 N_0.symm
  unfold G11
  rw [dif_pos hN, ← outsAt0_sweep]
  refine (congrFun (at_dB m c ⟨pt11Of i, hN⟩) (loc11Of i)).trans ?_
  have e0 : (⟨(i 0).val % 16, Nat.mod_lt _ (by decide)⟩ : Fin 16) = i 0 := Fin.ext (Nat.mod_eq_of_lt hi0)
  have e1 : col (tile ⟨pt11Of i, hN⟩) ⟨(i 1).val % 256, Nat.mod_lt _ (by decide)⟩ = i 1 :=
    Fin.ext (by show 256 * pt11Of i + (i 1).val % 256 = (i 1).val; rw [hp]; omega)
  show half * ∑ t, XA m c t (⟨(i 0).val % 16, Nat.mod_lt _ (by decide)⟩ : Fin 16)
      * dypA m c t (col (tile ⟨pt11Of i, hN⟩) ⟨(i 1).val % 256, Nat.mod_lt _ (by decide)⟩) = half * ∑ t, XA m c t (i 0) * dypA m c t (i 1)
  rw [e0, e1]

/-- The array `dm` after the run. -/
theorem G12_eq : G12 m c = (un fun _ o => dmM (DY m c) (CN m c) (m2 (XH m c)) (vA m c) o : Vec Ideal S1x11008 .f32) := by
  funext i
  have hi0 : (i 0).val < 1 := (i 0).isLt
  have hi1 : (i 1).val < 11008 := (i 1).isLt
  have hp : pt12Of i = (i 1).val / 256 := by
    show 43 * ((i 0).val / 1 - 0) + 1 * ((i 1).val / 256 - 0) = _
    omega
  have h43 : (i 1).val / 256 < 43 := by omega
  have hN : pt12Of i < cfg0.N := by rw [hp]; exact lt_of_lt_of_eq h43 N_0.symm
  unfold G12
  rw [dif_pos hN, ← outsAt0_sweep]
  refine (congrFun (at_dm m c ⟨pt12Of i, hN⟩) (loc12Of i)).trans ?_
  have e1 : col (tile ⟨pt12Of i, hN⟩) ⟨(i 1).val % 256, Nat.mod_lt _ (by decide)⟩ = i 1 :=
    Fin.ext (by show 256 * pt12Of i + (i 1).val % 256 = (i 1).val; rw [hp]; omega)
  show dmM (O := Fin 11008) (DY m c) (CN m c) (m2 (XH m c)) (vA m c) (col (tile ⟨pt12Of i, hN⟩) ⟨(i 1).val % 256, Nat.mod_lt _ (by decide)⟩) = _
  rw [e1]
  rfl

end Cert.Dora

end
-- ==== Proof.Ref.lean ====
/- What the reference computes, stage by stage, read at an index. A weight row or activation column `d` of the 4096 appears
   there as the even row `2 j` or the odd row `2 j + 1`. -/
module

public import proofs.«01_k».proof.Proof.Gen.ReferenceIdeal.Read
public import proofs.«01_k».proof.Proof.Model
public import Idealize.ShloMosaic.Lib.Pointwise

@[expose] public section

noncomputable section

namespace Cert.Dora.Ref

open Idealize.ShloMosaic Idealize.ShloMosaic.TcCoe Idealize.SL.Sem
open Cert.ReferenceIdeal Cert.ReferenceIdeal.Gen Cert.ReferenceIdeal.Read

/-- The low nibble as the reference decodes it. -/
theorem low_nib (z : BitVec 8) : IntOp.subi (IntOp.xori (IntOp.andi (BitVec.setWidth 32 z) 15#32) 8#32) 8#32 = nib z 0 := by
  revert z
  decide +kernel

/-- The high nibble as the reference decodes it. -/
theorem high_nib (z : BitVec 8) :
    IntOp.subi (IntOp.xori (IntOp.andi (IntOp.shrsi ArithUnit.host (BitVec.setWidth 32 z) 4#32) 15#32) 8#32) 8#32 = nib z 1 := by
  revert z
  decide +kernel

variable (x0 : Vec Ideal S2x512x11008 .bf16) (x2 : Vec Ideal S2x512x128 .f32) (x3 : Vec Ideal S2048x11008 .i8)
  (x4 : Vec Ideal S32x11008 .bf16) (x5 : Vec Ideal S4096x16 .bf16) (x6 : Vec Ideal S16x11008 .bf16) (x7 x8 : Vec Ideal S11008 .f32)
  (r0 : Vec Ideal S2x512x4096 .bf16)

/-- The even weight rows: the low nibble's code times its group's scale. -/
theorem v13 (j : Fin 2048) (o : Fin 11008) :
    val_main_v13 (F := Ideal) x3 x4 (ix2 j o) = code (x3 (ix2 j o)) 0 * x4 (ix2 (⟨j.val / 64, by omega⟩ : Fin 32) o) := by
  unfold code
  rw [← low_nib]
  unfold val_main_v13 val_main_v12 val_main_v11 val_main_v10 val_main_v9 val_main_v8 val_main_v7 val_main_v6 val_main_v5 val_main_v4 val_main_v3 val_main_v2 val_main_v1 val_main_c val_main_c_0 val_main_c_1
  pointwise

/-- The odd weight rows: the high nibble's code times its group's scale. -/
theorem v27 (j : Fin 2048) (o : Fin 11008) :
    val_main_v27 (F := Ideal) x3 x4 (ix2 j o) = code (x3 (ix2 j o)) 1 * x4 (ix2 (⟨j.val / 64, by omega⟩ : Fin 32) o) := by
  unfold code
  rw [← high_nib]
  unfold val_main_v27 val_main_v26 val_main_v25 val_main_v24 val_main_v23 val_main_v22 val_main_v21 val_main_v20 val_main_v19 val_main_v18 val_main_v17 val_main_v16 val_main_v15 val_main_v14 val_main_v1 val_main_c_2 val_main_c_3 val_main_c_4 val_main_c_5
  pointwise

/-- The even rows of the left low-rank factor. -/
theorem v30 (j : Fin 2048) (r : Fin 16) : val_main_v30 (F := Ideal) x5 (ix2 j r) = x5 (ix2 (⟨2 * j.val, by omega⟩ : Fin 4096) r) := by
  unfold val_main_v30 val_main_v29 val_main_v28
  pointwise
  exact congrArg x5 (congrArg (fun d => ix2 d r) (Fin.ext (by dsimp only; omega)))

/-- The odd rows of the left low-rank factor. -/
theorem v32 (j : Fin 2048) (r : Fin 16) : val_main_v32 (F := Ideal) x5 (ix2 j r) = x5 (ix2 (⟨2 * j.val + 1, by omega⟩ : Fin 4096) r) := by
  unfold val_main_v32 val_main_v31 val_main_v28
  pointwise
  exact congrArg x5 (congrArg (fun d => ix2 d r) (Fin.ext (by dsimp only; omega)))

/-- The even rows of the adapted weight. -/
theorem v39 (j : Fin 2048) (o : Fin 11008) :
    val_main_v39 (F := Ideal) x3 x4 x5 x6 (ix2 j o)
      = vM (fun a b => x3 (ix2 a b)) (fun a b => x4 (ix2 a b)) (fun a b => x5 (ix2 a b)) (fun a b => x6 (ix2 a b)) ⟨2 * j.val, by omega⟩ o := by
  unfold val_main_v39 val_main_v38 val_main_v37 val_main_v36 val_main_v35 val_main_v33 val_main_cst vM half
  pointwise
  simp only [v13, v30]
  have e1 : (⟨2 * j.val / 2, by omega⟩ : Fin 2048) = j := Fin.ext (by dsimp only; omega)
  have e2 : (⟨2 * j.val / 128, by omega⟩ : Fin 32) = ⟨j.val / 64, by omega⟩ := Fin.ext (by dsimp only; omega)
  have e3 : 2 * j.val % 2 = 0 := by omega
  rw [e1, e2, e3]

/-- The odd rows of the adapted weight. -/
theorem v44 (j : Fin 2048) (o : Fin 11008) :
    val_main_v44 (F := Ideal) x3 x4 x5 x6 (ix2 j o)
      = vM (fun a b => x3 (ix2 a b)) (fun a b => x4 (ix2 a b)) (fun a b => x5 (ix2 a b)) (fun a b => x6 (ix2 a b)) ⟨2 * j.val + 1, by omega⟩ o := by
  unfold val_main_v44 val_main_v43 val_main_v42 val_main_v41 val_main_v40 val_main_v34 val_main_cst_6 vM half
  pointwise
  simp only [v27, v32]
  have e1 : (⟨(2 * j.val + 1) / 2, by omega⟩ : Fin 2048) = j := Fin.ext (by dsimp only; omega)
  have e2 : (⟨(2 * j.val + 1) / 128, by omega⟩ : Fin 32) = ⟨j.val / 64, by omega⟩ := Fin.ext (by dsimp only; omega)
  have e3 : (2 * j.val + 1) % 2 = 1 := by omega
  rw [e1, e2, e3]

/-- The gradient through the column rescale. -/
theorem v50 (i : Fin 2) (j : Fin 512) (o : Fin 11008) :
    val_main_v50 (F := Ideal) x0 x7 x8 (ix3 i j o) = x0 (ix3 i j o) * Ideal.div (x7 (ix1 o)) (x8 (ix1 o)) := by
  unfold val_main_v50 val_main_v49 val_main_v48 val_main_v47 val_main_v46 val_main_v45
  pointwise

/-- The even columns of the dequantized activation. -/
theorem v66 (i : Fin 2) (j : Fin 512) (d : Fin 2048) :
    val_main_v66 (F := Ideal) x2 r0 (ix3 i j d)
      = r0 (ix3 i j (⟨2 * d.val, by omega⟩ : Fin 4096)) * x2 (ix3 i j (⟨2 * d.val / 32, by omega⟩ : Fin 128)) := by
  unfold val_main_v66 val_main_v65 val_main_v64 val_main_v63 val_main_v62 val_main_v61 val_main_v60 val_main_v59
  pointwise
  exact congrArg₂ (fun a b => r0 (ix3 i j a) * x2 (ix3 i j b)) (Fin.ext (by dsimp only; omega)) (Fin.ext (by dsimp only; omega))

/-- The odd columns of the dequantized activation. -/
theorem v71 (i : Fin 2) (j : Fin 512) (d : Fin 2048) :
    val_main_v71 (F := Ideal) x2 r0 (ix3 i j d)
      = r0 (ix3 i j (⟨2 * d.val + 1, by omega⟩ : Fin 4096)) * x2 (ix3 i j (⟨(2 * d.val + 1) / 32, by omega⟩ : Fin 128)) := by
  unfold val_main_v71 val_main_v70 val_main_v69 val_main_v68 val_main_v67 val_main_v61 val_main_v60 val_main_v59
  pointwise
  exact congrArg₂ (fun a b => r0 (ix3 i j a) * x2 (ix3 i j b)) (Fin.ext (by dsimp only; omega)) (Fin.ext (by dsimp only; omega))

/-- The sum over both token axes of a batch of token rows. -/
theorem reduce_tokens (z : FVec Ideal S2x512x11008 .f32) (o : Fin 11008) :
    Host.reduceAdd z (val_main_cst_7 (F := Ideal)) reducesTo_S2x512x11008_S11008_d0_1 h_S_ (ix1 o) = ∑ i : Fin 2, ∑ j : Fin 512, z (ix3 i j o) := by
  unfold val_main_cst_7
  pointwise
  unfold Ideal.hostReduceAdd
  rw [zero_add, Finset.sum_filter_eq_sum_of_fiber _ (fun k : Fin 2 × Fin 512 => ix3 k.1 k.2 o)
    (fun _ _ e => Prod.ext (congrFun e 0) (congrFun e 1)) ?_ z, Fintype.sum_prod_type]
  intro i
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- A product contracted over both token axes is the double sum. -/
theorem dot_tokens_dA (a : FVec Ideal S2x512x2048 .bf16) (b : FVec Ideal S2x512x16 .bf16) (d : Fin 2048) (r : Fin 16) :
    (Host.dotGeneral dot_S2x512x2048_S2x512x16_S2048x16_01_01_2_2_n_n none a b : FVec Ideal S2048x16 .f32) (ix2 d r)
      = ∑ i : Fin 2, ∑ j : Fin 512, a (ix3 i j d) * b (ix3 i j r) := by
  pointwise

end Cert.Dora.Ref

end
-- ==== Proof.RefOut.lean ====
/- The reference's four results, as the formulas of the model over flat token numbers `t = 512 * batch + position`. -/
module

public import proofs.«01_k».proof.Proof.Ref

@[expose] public section

noncomputable section

namespace Cert.Dora.Ref

open Idealize.ShloMosaic Idealize.ShloMosaic.TcCoe Idealize.SL.Sem
open Cert.ReferenceIdeal Cert.ReferenceIdeal.Gen Cert.ReferenceIdeal.Read
open scoped BigOperators

/-- A batch of token rows by flat token number. -/
def tok {n : ℕ} {α : Type} (x : (⟨3, ![2, 512, n]⟩ : Shape).Idx → α) (t : Fin 1024) (a : Fin n) : α :=
  x (ix3 (⟨t.val / 512, by omega⟩ : Fin 2) (⟨t.val % 512, by omega⟩ : Fin 512) a)

/-- Token `512 i + j` is position `j` of batch `i`. -/
theorem tok_at {n : ℕ} {α : Type} (x : (⟨3, ![2, 512, n]⟩ : Shape).Idx → α) (i : Fin 2) (j : Fin 512) (a : Fin n) (h : 512 * i.val + j.val < 1024) :
    tok x ⟨512 * i.val + j.val, h⟩ a = x (ix3 i j a) := by
  unfold tok
  have e1 : (⟨(512 * i.val + j.val) / 512, by omega⟩ : Fin 2) = i := Fin.ext (by dsimp only; omega)
  have e2 : (⟨(512 * i.val + j.val) % 512, by omega⟩ : Fin 512) = j := Fin.ext (by dsimp only; omega)
  rw [e1, e2]

/-- A matrix by row and column. -/
abbrev mat {a b : ℕ} {α : Type} (x : (⟨2, ![a, b]⟩ : Shape).Idx → α) (r : Fin a) (c : Fin b) : α := x (ix2 r c)

/-- A vector by its index. -/
abbrev vec {b : ℕ} {α : Type} (x : (⟨1, ![b]⟩ : Shape).Idx → α) (c : Fin b) : α := x (ix1 c)

variable (x0 : Vec Ideal S2x512x11008 .bf16) (x2 : Vec Ideal S2x512x128 .f32) (x3 : Vec Ideal S2048x11008 .i8)
  (x4 : Vec Ideal S32x11008 .bf16) (x5 : Vec Ideal S4096x16 .bf16) (x6 : Vec Ideal S16x11008 .bf16) (x7 x8 : Vec Ideal S11008 .f32)
  (r0 : Vec Ideal S2x512x4096 .bf16)

/-- The gradient through the column rescale. -/
abbrev dypR := dypM (tok x0) (vec x7) (vec x8)
/-- The adapted weight. -/
abbrev vR := vM (mat x3) (mat x4) (mat x5) (mat x6)
/-- The dequantized activation. -/
abbrev xhR := xhM (tok r0) (tok x2)

/-- The rescaled gradient of one token. -/
theorem dyp_at (i : Fin 2) (j : Fin 512) (o : Fin 11008) (h : 512 * i.val + j.val < 1024) :
    val_main_v50 (F := Ideal) x0 x7 x8 (ix3 i j o) = dypR x0 x7 x8 ⟨512 * i.val + j.val, h⟩ o := by
  rw [v50, dypR, dypM, tok_at]

/-- The even columns of one token's activation. -/
theorem xh_even_at (i : Fin 2) (j : Fin 512) (d : Fin 2048) (h : 512 * i.val + j.val < 1024) :
    val_main_v66 (F := Ideal) x2 r0 (ix3 i j d) = xhR x2 r0 ⟨512 * i.val + j.val, h⟩ ⟨2 * d.val, by omega⟩ := by
  rw [v66, xhR, xhM, tok_at, tok_at]

/-- The odd columns of one token's activation. -/
theorem xh_odd_at (i : Fin 2) (j : Fin 512) (d : Fin 2048) (h : 512 * i.val + j.val < 1024) :
    val_main_v71 (F := Ideal) x2 r0 (ix3 i j d) = xhR x2 r0 ⟨512 * i.val + j.val, h⟩ ⟨2 * d.val + 1, by omega⟩ := by
  rw [v71, xhR, xhM, tok_at, tok_at]

/-- `xh v` of one token and column. -/
theorem v74 (i : Fin 2) (j : Fin 512) (o : Fin 11008) (h : 512 * i.val + j.val < 1024) :
    val_main_v74 (F := Ideal) x2 x3 x4 x5 x6 r0 (ix3 i j o)
      = ∑ d, xhR x2 r0 ⟨512 * i.val + j.val, h⟩ d * vR x3 x4 x5 x6 d o := by
  rw [sum_even_odd]
  unfold val_main_v74 val_main_v73 val_main_v72
  pointwise
  simp only [xh_even_at _ _ i j _ h, xh_odd_at _ _ i j _ h, v39, v44]

/-- `dyp Bᵀ` of one token. -/
theorem v81 (i : Fin 2) (j : Fin 512) (r : Fin 16) (h : 512 * i.val + j.val < 1024) :
    val_main_v81 (F := Ideal) x0 x6 x7 x8 (ix3 i j r) = hM (dypR x0 x7 x8) (mat x6) ⟨512 * i.val + j.val, h⟩ r := by
  unfold val_main_v81 val_main_v80 hM
  pointwise
  simp only [dyp_at _ _ _ i j _ h]

/-- `xh A` of one token. -/
theorem v94 (i : Fin 2) (j : Fin 512) (r : Fin 16) (h : 512 * i.val + j.val < 1024) :
    val_main_v94 (F := Ideal) x2 x5 r0 (ix3 i j r) = xaM (xhR x2 r0) (mat x5) ⟨512 * i.val + j.val, h⟩ r := by
  unfold xaM
  rw [sum_even_odd]
  unfold val_main_v94 val_main_v93 val_main_v92 val_main_v91
  pointwise
  simp only [xh_even_at _ _ i j _ h, xh_odd_at _ _ i j _ h, v30, v32]

/-- One token's term of `dm`. -/
theorem v78 (i : Fin 2) (j : Fin 512) (o : Fin 11008) (h : 512 * i.val + j.val < 1024) :
    val_main_v78 (F := Ideal) x0 x2 x3 x4 x5 x6 x8 r0 (ix3 i j o)
      = Ideal.div (tok x0 ⟨512 * i.val + j.val, h⟩ o * ∑ d, xhR x2 r0 ⟨512 * i.val + j.val, h⟩ d * vR x3 x4 x5 x6 d o) (vec x8 o) := by
  rw [tok_at, ← v74 _ _ _ _ _ _ i j o h]
  unfold val_main_v78 val_main_v77 val_main_v76 val_main_v75 val_main_v46
  pointwise

/-- The reference's `dm`. -/
theorem out_dm (o : Fin 11008) :
    val_main_v100 (F := Ideal) x0 x2 x3 x4 x5 x6 x8 r0 (ix2 (0 : Fin 1) o) = dmM (tok x0) (vec x8) (xhR x2 r0) (vR x3 x4 x5 x6) o := by
  unfold dmM
  rw [sum_tokens]
  have e : val_main_v100 (F := Ideal) x0 x2 x3 x4 x5 x6 x8 r0 (ix2 (0 : Fin 1) o) = val_main_v79 (F := Ideal) x0 x2 x3 x4 x5 x6 x8 r0 (ix1 o) := by
    unfold val_main_v100
    generalize val_main_v79 (F := Ideal) x0 x2 x3 x4 x5 x6 x8 r0 = y
    pointwise
  rw [e]
  unfold val_main_v79
  rw [reduce_tokens]
  refine Finset.sum_congr rfl fun i _ => Finset.sum_congr rfl fun j _ => ?_
  rw [v78 _ _ _ _ _ _ _ _ i j o (by omega)]

/-- The reference's `dB`. -/
theorem out_dB (r : Fin 16) (o : Fin 11008) :
    val_main_v98 (F := Ideal) x0 x2 x5 x7 x8 r0 (ix2 r o) = dbM (xaM (xhR x2 r0) (mat x5)) (dypR x0 x7 x8) r o := by
  unfold dbM
  rw [sum_tokens]
  unfold val_main_v98 val_main_v97 val_main_v96 val_main_v95 val_main_cst_9 half
  pointwise
  refine congrArg _ (Finset.sum_congr rfl fun i _ => Finset.sum_congr rfl fun j _ => ?_)
  rw [v94 _ _ _ i j _ (by omega), dyp_at _ _ _ i j _ (by omega)]

/-- The even rows of the reference's `xhᵀ h`. -/
theorem v82 (d : Fin 2048) (r : Fin 16) :
    val_main_v82 (F := Ideal) x0 x2 x6 x7 x8 r0 (ix2 d r) = ∑ t, xhR x2 r0 t ⟨2 * d.val, by omega⟩ * hM (dypR x0 x7 x8) (mat x6) t r := by
  rw [sum_tokens]
  unfold val_main_v82
  rw [dot_tokens_dA]
  refine Finset.sum_congr rfl fun i _ => Finset.sum_congr rfl fun j _ => ?_
  rw [v81 _ _ _ _ i j _ (by omega), xh_even_at _ _ i j _ (by omega)]

/-- The odd rows of the reference's `xhᵀ h`. -/
theorem v83 (d : Fin 2048) (r : Fin 16) :
    val_main_v83 (F := Ideal) x0 x2 x6 x7 x8 r0 (ix2 d r) = ∑ t, xhR x2 r0 t ⟨2 * d.val + 1, by omega⟩ * hM (dypR x0 x7 x8) (mat x6) t r := by
  rw [sum_tokens]
  unfold val_main_v83
  rw [dot_tokens_dA]
  refine Finset.sum_congr rfl fun i _ => Finset.sum_congr rfl fun j _ => ?_
  rw [v81 _ _ _ _ i j _ (by omega), xh_odd_at _ _ i j _ (by omega)]

/-- The reference's `dA`. -/
theorem out_dA (d : Fin 4096) (r : Fin 16) :
    val_main_v90 (F := Ideal) x0 x2 x6 x7 x8 r0 (ix2 d r) = daM (xhR x2 r0) (hM (dypR x0 x7 x8) (mat x6)) d r := by
  unfold val_main_v90 val_main_v89 val_main_v88 val_main_v87 val_main_v86 val_main_v85 val_main_v84 val_main_cst_8 daM half
  pointwise
  split <;> rename_i h
  · rw [v82, show (⟨2 * (d.val / 2), by omega⟩ : Fin 4096) = d from Fin.ext (by dsimp only; omega)]
  · rw [v83, show (⟨2 * (d.val / 2) + 1, by omega⟩ : Fin 4096) = d from Fin.ext (by dsimp only; omega)]

/-- The even columns of the reference's `dx`. -/
theorem v52 (i : Fin 2) (j : Fin 512) (d : Fin 2048) (h : 512 * i.val + j.val < 1024) :
    val_main_v52 (F := Ideal) x0 x3 x4 x5 x6 x7 x8 (ix3 i j d) = dxM (dypR x0 x7 x8) (vR x3 x4 x5 x6) ⟨512 * i.val + j.val, h⟩ ⟨2 * d.val, by omega⟩ := by
  unfold val_main_v52 val_main_v51 dxM
  pointwise
  simp only [dyp_at _ _ _ i j _ h, v39]

/-- The odd columns of the reference's `dx`. -/
theorem v54 (i : Fin 2) (j : Fin 512) (d : Fin 2048) (h : 512 * i.val + j.val < 1024) :
    val_main_v54 (F := Ideal) x0 x3 x4 x5 x6 x7 x8 (ix3 i j d) = dxM (dypR x0 x7 x8) (vR x3 x4 x5 x6) ⟨512 * i.val + j.val, h⟩ ⟨2 * d.val + 1, by omega⟩ := by
  unfold val_main_v54 val_main_v53 dxM
  pointwise
  simp only [dyp_at _ _ _ i j _ h, v44]

/-- The reference's `dx`. -/
theorem out_dx (t : Fin 1024) (d : Fin 4096) :
    val_main_v99 (F := Ideal) x0 x3 x4 x5 x6 x7 x8 (ix2 t d) = dxM (dypR x0 x7 x8) (vR x3 x4 x5 x6) t d := by
  unfold val_main_v99 val_main_v58 val_main_v57 val_main_v56 val_main_v55
  pointwise
  have ht : (⟨512 * (t.val / 512) + t.val % 512, by omega⟩ : Fin 1024) = t := Fin.ext (by dsimp only; omega)
  split <;> rename_i h
  · rw [v52 _ _ _ _ _ _ _ _ _ _ (by dsimp only; omega), ht, show (⟨2 * (d.val / 2), by omega⟩ : Fin 4096) = d from Fin.ext (by dsimp only; omega)]
  · rw [v54 _ _ _ _ _ _ _ _ _ _ (by dsimp only; omega), ht, show (⟨2 * (d.val / 2) + 1, by omega⟩ : Fin 4096) = d from Fin.ext (by dsimp only; omega)]

end Cert.Dora.Ref

end
-- ==== Proof.Region.lean ====
/- What the reference's gridless kernel leaves in its result: the activation codes, cast. -/
module

public import proofs.«01_k».proof.Proof.Gen.ReferenceIdeal.Run
public import Idealize.ShloMosaic.Lib.Pipeline.Value

@[expose] public section

noncomputable section

namespace Cert.Dora.Ref

open Idealize.ShloMosaic Idealize.ShloMosaic.TcCoe Idealize.SL.Sem
open Cert.ReferenceIdeal Cert.ReferenceIdeal.Gen Cert.ReferenceIdeal.Value

theorem hz3 : (![0, 0, 0] : Fin 3 → Nat) = fun _ => 0 := funext fun a => by fin_cases a <;> rfl

variable {F : FTy → Type} [FloatOps F]

/-- The body's one store fills the whole block with the cast of the whole input block. -/
theorem out_eq (x : Vec F S2x512x4096 .fp8e4m3) : out0_1 x = k0_pay1 x := by
  unfold out0_1
  rw [View.canon_unit_zero (S := S2x512x4096) hz3, View.ld_unit_zero (S := S2x512x4096) hz3]

/-- Each window's block index at the one grid point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- So an index of the input's block is the same index of its array. -/
theorem emb0 (t : Fin cfg0.N) (j : S2x512x4096.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 512 + 1 * (j 1).val = (j 1).val; omega
  | ⟨2, _⟩ => show win0_0.index t (2 : Fin 3) * 4096 + 1 * (j 2).val = (j 2).val; omega

/-- And an index of the result's block is the same index of its array. -/
theorem emb1 (t : Fin cfg0.N) (j : S2x512x4096.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 512 + 1 * (j 1).val = (j 1).val; omega
  | ⟨2, _⟩ => show win0_1.index t (2 : Fin 3) * 4096 + 1 * (j 2).val = (j 2).val; omega

variable (m : (ℓ : Loc nD τ sig) → Buf (Elt F) ℓ)

/-- The input's block is its array. -/
theorem iblk0_eq (c : Dev nD) (t : Fin cfg0.N) : iblk m c 0 t = V m c main_arg1 := by
  funext j; show V m c main_arg1 (((cfg0.win 0).blk t).view.emb j) = V m c main_arg1 j; rw [emb0]

/-- Cutting the point's block out of `X` and reading `X` through the block's view give the same. -/
theorem cut1_eq (t : Fin cfg0.N) (X : Vec F S2x512x4096 .bf16) :
    (cfg0.win 1).cut (grid0.coords t) X = ((cfg0.win 1).blk t).view.read (Elt F) X := by
  funext j
  show X j = X (((cfg0.win 1).blk t).view.emb j)
  rw [emb1]

/-- What the point writes back is its block of the cast of the argument. -/
theorem flushed1_eq (c : Dev nD) (t : Fin cfg0.N) :
    (dats m 0 c).flushed 1 t = ((cfg0.win 1).blk t).view.read (Elt F) (k0_pay1 (V m c main_arg1)) := by
  have e : (dats m 0 c).flushed 1 t = (cfg0.win 1).cut (grid0.coords t) ((dats m 0 c).after 1 t) := rfl
  rw [e, after0_1, out_eq, iblk0_eq]
  exact cut1_eq t _

/-- Every index of the result is in the point's block. -/
theorem covered1 (i : S2x512x4096.Idx) :
    ∃ t : Fin cfg0.N, (cfg0.win 1).flush t = true ∧ i ∈ ((cfg0.win 1).blk t).view.set :=
  ⟨(⟨0, by decide⟩ : Fin cfg0.N), flush0_1 _, by
    have h := ((cfg0.win 1).blk (⟨0, by decide⟩ : Fin cfg0.N)).view.emb_mem_set i; rwa [emb1] at h⟩

/-- The region's result: the cast of the activation codes as launched. -/
theorem region_eq (c : Dev nD) : reg_main_v0 m c = k0_pay1 (m ((c : Thread nD τ).loc main_arg1)) := by
  unfold reg_main_v0
  exact ((dats m 0 c).arrAt_eq_of_cover 1 (k0_pay1 (V m c main_arg1)) (fun t _ => flushed1_eq m c t) covered1).trans (by rw [V_main_arg1])

end Cert.Dora.Ref

end
-- ==== Proof.Equal.lean ====
/- The equation: on the same arguments the kernel's four result arrays are the reference's four results. -/
module

public import proofs.«01_k».proof.Proof.Arrays
public import proofs.«01_k».proof.Proof.RefOut
public import proofs.«01_k».proof.Proof.Region

@[expose] public section

noncomputable section

namespace Cert.Dora

open Idealize.ShloMosaic Idealize.ShloMosaic.TcCoe Idealize.SL.Sem
open Cert.KernelIdeal Cert.KernelIdeal.Gen Cert.KernelIdeal.Value
open Cert.Dora.Ref (tok mat vec)

/-! ## The reshapes before the kernel -/

/-- Flattening the tokens of an array 11008 wide. -/
theorem flat_11008 {α : Type} (x : S2x512x11008.Idx → α) (t : Fin 1024) (a : Fin 11008) :
    shapeCast S1024x11008 x shapeCasts_S2x512x11008_S1024x11008 (ix2 t a) = tok x t a := by
  unfold tok
  pointwise

/-- Flattening the tokens of an array 4096 wide. -/
theorem flat_4096 {α : Type} (x : S2x512x4096.Idx → α) (t : Fin 1024) (a : Fin 4096) :
    shapeCast S1024x4096 x shapeCasts_S2x512x4096_S1024x4096 (ix2 t a) = tok x t a := by
  unfold tok
  pointwise

/-- Flattening the tokens of an array 128 wide. -/
theorem flat_128 {α : Type} (x : S2x512x128.Idx → α) (t : Fin 1024) (a : Fin 128) :
    shapeCast S1024x128 x shapeCasts_S2x512x128_S1024x128 (ix2 t a) = tok x t a := by
  unfold tok
  pointwise

/-- A vector reshaped to one row. -/
theorem row_11008 {α : Type} (x : S11008.Idx → α) (a : Fin 11008) :
    shapeCast S1x11008 x shapeCasts_S11008_S1x11008 (ix2 (0 : Fin 1) a) = x (ix1 a) := by
  pointwise

variable (m : (ℓ : Loc nD τ sig) → Buf (Elt Ideal) ℓ) (c : Dev nD)

/-! The kernel's arguments, as launched. -/
abbrev a0 : Vec Ideal S2x512x11008 .bf16 := m ((c : Thread nD τ).loc main_arg0)
abbrev a1 : Vec Ideal S2x512x4096 .fp8e4m3 := m ((c : Thread nD τ).loc main_arg1)
abbrev a2 : Vec Ideal S2x512x128 .f32 := m ((c : Thread nD τ).loc main_arg2)
abbrev a3 : Vec Ideal S2048x11008 .i8 := m ((c : Thread nD τ).loc main_arg3)
abbrev a4 : Vec Ideal S32x11008 .bf16 := m ((c : Thread nD τ).loc main_arg4)
abbrev a5 : Vec Ideal S4096x16 .bf16 := m ((c : Thread nD τ).loc main_arg5)
abbrev a6 : Vec Ideal S16x11008 .bf16 := m ((c : Thread nD τ).loc main_arg6)
abbrev a7 : Vec Ideal S11008 .f32 := m ((c : Thread nD τ).loc main_arg7)
abbrev a8 : Vec Ideal S11008 .f32 := m ((c : Thread nD τ).loc main_arg8)
/-- The activation codes as the reference's first operation leaves them. -/
abbrev r1 : Vec Ideal S2x512x4096 .bf16 := Cert.ReferenceIdeal.Gen.k0_pay1 (a1 m c)

/-- The kernel's flat `dy` is the argument by token. -/
theorem DY_eq : DY m c = tok (a0 m c) := by
  funext t o; unfold DY m2; rw [V_main_v0]; exact flat_11008 _ t o
/-- The kernel's row of magnitudes is the argument. -/
theorem MG_eq : MG m c = vec (a7 m c) := by
  funext o; unfold MG row; rw [V_main_v3]; exact row_11008 _ o
/-- The kernel's row of column norms is the argument. -/
theorem CN_eq : CN m c = vec (a8 m c) := by
  funext o; unfold CN row; rw [V_main_v4]; exact row_11008 _ o
/-- The packed weight is the argument. -/
theorem WQ_eq : WQ m c = mat (a3 m c) := by
  unfold WQ; rw [V_main_arg3]
/-- The weight scales are the argument. -/
theorem WS_eq : WS m c = mat (a4 m c) := by
  unfold WS; rw [V_main_arg4]
/-- The left low-rank factor is the argument. -/
theorem LA_eq : LA m c = mat (a5 m c) := by
  unfold LA; rw [V_main_arg5]
/-- The right low-rank factor is the argument. -/
theorem LB_eq : LB m c = mat (a6 m c) := by
  unfold LB; rw [V_main_arg6]

/-- The kernel's dequantized activation is the reference's. -/
theorem XH_eq : m2 (XH m c) = Ref.xhR (a2 m c) (r1 m c) := by
  unfold XH xhB
  rw [m2_un]
  funext t d
  unfold Ref.xhR xhM m2
  rw [V_main_v1, V_main_v2]
  exact congrArg₂ (fun x y : EReal => x * y) (flat_4096 _ t d) (flat_128 _ t _)

/-- The kernel's rescaled gradient is the reference's. -/
theorem dypA_eq : dypA m c = Ref.dypR (a0 m c) (a7 m c) (a8 m c) := by
  unfold dypA; rw [DY_eq, MG_eq, CN_eq]

/-- The kernel's adapted weight is the reference's. -/
theorem vA_eq : vA m c = Ref.vR (a3 m c) (a4 m c) (a5 m c) (a6 m c) := by
  unfold vA; rw [WQ_eq, WS_eq, LA_eq, LB_eq]

/-- `dx`: the kernel's array is the reference's. -/
theorem dx_equal : G9 m c = Cert.ReferenceIdeal.Read.val_main_v99 (F := Ideal) (a0 m c) (a3 m c) (a4 m c) (a5 m c) (a6 m c) (a7 m c) (a8 m c) := by
  rw [G9_eq, dypA_eq, vA_eq]
  exact (eq_un (Ref.out_dx _ _ _ _ _ _ _)).symm

/-- `dA`: the kernel's array is the reference's. -/
theorem dA_equal : G10 m c = Cert.ReferenceIdeal.Read.val_main_v90 (F := Ideal) (a0 m c) (a2 m c) (a6 m c) (a7 m c) (a8 m c) (r1 m c) := by
  rw [G10_eq, XH_eq, dypA_eq, LB_eq]
  exact (eq_un (Ref.out_dA _ _ _ _ _ _)).symm

/-- `dB`: the kernel's array is the reference's. -/
theorem dB_equal : G11 m c = Cert.ReferenceIdeal.Read.val_main_v98 (F := Ideal) (a0 m c) (a2 m c) (a5 m c) (a7 m c) (a8 m c) (r1 m c) := by
  rw [G11_eq, dypA_eq]
  unfold XA
  rw [XH_eq, LA_eq]
  exact (eq_un (Ref.out_dB _ _ _ _ _ _)).symm

/-- `dm`: the kernel's array is the reference's. -/
theorem dm_equal : G12 m c
    = Cert.ReferenceIdeal.Read.val_main_v100 (F := Ideal) (a0 m c) (a2 m c) (a3 m c) (a4 m c) (a5 m c) (a6 m c) (a8 m c) (r1 m c) := by
  rw [G12_eq, DY_eq, CN_eq, XH_eq, vA_eq]
  refine (eq_un fun r o => ?_).symm
  rw [Subsingleton.elim r 0]
  exact Ref.out_dm _ _ _ _ _ _ _ _ o

end Cert.Dora

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equal
public import Idealize.ShloMosaic.Adequacy
public import Idealize.ShloMosaic.Init

@[expose] public section

noncomputable section

namespace Cert.Proof

open Idealize.ShloMosaic Idealize.SL.Sem Cert.Kernel

open Cert.ReferenceIdeal.Value Cert.ReferenceIdeal.Read in
/-- Launched on the same arguments, the kernel and the reference leave the same four results, at exact arithmetic. -/
theorem equal : Cert.algebraic_KernelIdeal_ReferenceIdeal := by
  intro m g m' g' _ hargs
  refine ⟨Cert.KernelIdeal.Value.G9 m, Cert.KernelIdeal.Value.G10 m, Cert.KernelIdeal.Value.G11 m, Cert.KernelIdeal.Value.G12 m,
    Cert.KernelIdeal.Value.run m g, ?_⟩
  refine (θ_run _ _ _).mono (fun r h c => ?_) (Cert.ReferenceIdeal.Value.run m' g')
  obtain ⟨h99, h90, h98, h100, hrest⟩ := h c
  obtain ⟨e0, e1, e2, e3, e4, e5, e6, e7, e8⟩ := hargs c
  refine ⟨h99.trans ((val_main_v99_eq (exitV m' c)).trans ?_), h90.trans ((val_main_v90_eq (exitV m' c)).trans ?_),
    h98.trans ((val_main_v98_eq (exitV m' c)).trans ?_), h100.trans ((val_main_v100_eq (exitV m' c)).trans ?_), hrest⟩
  · rw [exit_main_arg0, exit_main_arg3, exit_main_arg4, exit_main_arg5, exit_main_arg6, exit_main_arg7, exit_main_arg8, e0, e3, e4, e5, e6, e7, e8]
    exact (Cert.Dora.dx_equal m c).symm
  · rw [exit_main_arg0, exit_main_arg2, exit_main_arg6, exit_main_arg7, exit_main_arg8, exit_main_v0, Cert.Dora.Ref.region_eq, e0, e1, e2, e6, e7, e8]
    exact (Cert.Dora.dA_equal m c).symm
  · rw [exit_main_arg0, exit_main_arg2, exit_main_arg5, exit_main_arg7, exit_main_arg8, exit_main_v0, Cert.Dora.Ref.region_eq, e0, e1, e2, e5, e7, e8]
    exact (Cert.Dora.dB_equal m c).symm
  · rw [exit_main_arg0, exit_main_arg2, exit_main_arg3, exit_main_arg4, exit_main_arg5, exit_main_arg6, exit_main_arg8, exit_main_v0, Cert.Dora.Ref.region_eq, e0, e1, e2, e3, e4, e5, e6, e8]
    exact (Cert.Dora.dm_equal m c).symm

/-- The three frames, the preservation of the kernel by idealization, and the equation. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, equal⟩

end Cert.Proof

end
